-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quartiles_in_order [hPre_quartiles_in_order : Cert.Pre_quartiles_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_quartiles_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quartiles_in_order [hPre_quartiles_in_order : Cert.Pre_quartiles_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quartiles_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_estimates_separate [hPre_estimates_separate : Cert.Pre_estimates_separate.Facts] (m : (ℓ : Loc Cert.WholeIdeal.nD Cert.WholeIdeal.τ Cert.WholeIdeal.sig) → Buf (Elt Ideal) ℓ) : Prop :=
  ∀ c : Dev Cert.WholeIdeal.nD,
    (Cert.Pre_estimates_separate.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_ExactIdeal (m : (ℓ : Loc Cert.ExactIdeal.nD Cert.ExactIdeal.τ Cert.ExactIdeal.sig) → Buf (Elt Ideal) ℓ) : Prop :=
  True

def Pre_ExactIdeal_estimates_separate [hPre_estimates_separate : Cert.Pre_estimates_separate.Facts] (m : (ℓ : Loc Cert.ExactIdeal.nD Cert.ExactIdeal.τ Cert.ExactIdeal.sig) → Buf (Elt Ideal) ℓ) : Prop :=
  ∀ c : Dev Cert.ExactIdeal.nD,
    (Cert.Pre_estimates_separate.fn (F := Ideal) (m ((c.tc : Thread Cert.ExactIdeal.nD Cert.ExactIdeal.τ).loc Cert.ExactIdeal.main_arg0)) (m ((c.tc : Thread Cert.ExactIdeal.nD Cert.ExactIdeal.τ).loc Cert.ExactIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_quartiles_in_order [hKernelIdeal : Cert.KernelIdeal.Facts] [hPre_quartiles_in_order : Cert.Pre_quartiles_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quartiles_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_quartiles_in_order [hReferenceIdeal : Cert.ReferenceIdeal.Facts] [hPre_quartiles_in_order : Cert.Pre_quartiles_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quartiles_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeIdeal_pre_estimates_separate [hWholeIdeal : Cert.WholeIdeal.Facts] [hPre_estimates_separate : Cert.Pre_estimates_separate.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_estimates_separate m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1))
      ∧ r.2.sem = fun _ => 0)

def quiescent_ExactIdeal_pre_estimates_separate [hExactIdeal : Cert.ExactIdeal.Facts] [hPre_estimates_separate : Cert.Pre_estimates_separate.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal_estimates_separate m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.sign_bit.Statement Cert.KernelIdeal.S128x8192 .f32

def algebraic_KernelIdeal_ReferenceIdeal_pre_quartiles_in_order [hKernelIdeal : Cert.KernelIdeal.Facts] [hReferenceIdeal : Cert.ReferenceIdeal.Facts] [hPre_quartiles_in_order : Cert.Pre_quartiles_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quartiles_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Whole_WholeIdeal : Prop :=
  IdealRules.named_const.Statement Cert.WholeIdeal.κ "inv_ln2" .f32 0x3FB8AA3B#32 (((Real.log 2)⁻¹ : ℝ) : EReal)
  ∧ IdealRules.sign_bit.Statement Cert.WholeIdeal.S128x8192 .f32

def algebraic_WholeIdeal_WholeReferenceIdeal [hWholeIdeal : Cert.WholeIdeal.Facts] [hWholeReferenceIdeal : Cert.WholeReferenceIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)) →
    ∃ (v0 : (c : Dev Cert.WholeIdeal.nD) → Buf (Elt Ideal) ((c.tc : Thread Cert.WholeIdeal.nD Cert.WholeIdeal.τ).loc Cert.WholeIdeal.main_v2)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v2) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v278) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1))

def algebraic_WholeIdeal_ExactIdeal_pre_estimates_separate [hWholeIdeal : Cert.WholeIdeal.Facts] [hExactIdeal : Cert.ExactIdeal.Facts] [hPre_estimates_separate : Cert.Pre_estimates_separate.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.ExactIdeal.nD Cert.ExactIdeal.τ Cert.ExactIdeal.sig) → Buf (Elt Ideal) ℓ) (g' : Dev Cert.ExactIdeal.nD → PrngReg), Pre_WholeIdeal_estimates_separate m →
    (∀ c : Dev Cert.WholeIdeal.nD,
      m' ((c.tc : Thread Cert.ExactIdeal.nD Cert.ExactIdeal.τ).loc Cert.ExactIdeal.main_arg0) = m ((c.tc : Thread Cert.WholeIdeal.nD Cert.WholeIdeal.τ).loc Cert.WholeIdeal.main_arg0)
      ∧ m' ((c.tc : Thread Cert.ExactIdeal.nD Cert.ExactIdeal.τ).loc Cert.ExactIdeal.main_arg1) = m ((c.tc : Thread Cert.WholeIdeal.nD Cert.WholeIdeal.τ).loc Cert.WholeIdeal.main_arg1)) →
    ∃ (v0 : (c : Dev Cert.WholeIdeal.nD) → Buf (Elt Ideal) ((c.tc : Thread Cert.WholeIdeal.nD Cert.WholeIdeal.τ).loc Cert.WholeIdeal.main_v2)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v2) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.ExactIdeal.defs (F := Ideal)) (onTc (τ := Cert.ExactIdeal.τ) (Cert.ExactIdeal.main (F := Ideal))) ⟨m', fun _ => 0, g'⟩ (fun r => ∀ c : Dev Cert.ExactIdeal.nD,
          r.2.mem ((c.tc : Thread Cert.ExactIdeal.nD Cert.ExactIdeal.τ).loc Cert.ExactIdeal.main_v152) = v0 c
          ∧ r.2.mem ((c.tc : Thread Cert.ExactIdeal.nD Cert.ExactIdeal.τ).loc Cert.ExactIdeal.main_arg0) = m' ((c.tc : Thread Cert.ExactIdeal.nD Cert.ExactIdeal.τ).loc Cert.ExactIdeal.main_arg0)
          ∧ r.2.mem ((c.tc : Thread Cert.ExactIdeal.nD Cert.ExactIdeal.τ).loc Cert.ExactIdeal.main_arg1) = m' ((c.tc : Thread Cert.ExactIdeal.nD Cert.ExactIdeal.τ).loc Cert.ExactIdeal.main_arg1))

def Claim : Prop :=
  ∃ (hKernel : Cert.Kernel.Facts) (hKernelIdeal : Cert.KernelIdeal.Facts) (hReferenceIdeal : Cert.ReferenceIdeal.Facts) (hWhole : Cert.Whole.Facts) (hWholeIdeal : Cert.WholeIdeal.Facts) (hWholeReferenceIdeal : Cert.WholeReferenceIdeal.Facts) (hExactIdeal : Cert.ExactIdeal.Facts) (hPre_quartiles_in_order : Cert.Pre_quartiles_in_order.Facts) (hPre_estimates_separate : Cert.Pre_estimates_separate.Facts),
    quiescent_Kernel (hKernel := hKernel)
    ∧ quiescent_KernelIdeal (hKernelIdeal := hKernelIdeal)
    ∧ quiescent_KernelIdeal_pre_quartiles_in_order (hKernelIdeal := hKernelIdeal) (hPre_quartiles_in_order := hPre_quartiles_in_order)
    ∧ quiescent_ReferenceIdeal (hReferenceIdeal := hReferenceIdeal)
    ∧ quiescent_ReferenceIdeal_pre_quartiles_in_order (hReferenceIdeal := hReferenceIdeal) (hPre_quartiles_in_order := hPre_quartiles_in_order)
    ∧ quiescent_Whole (hWhole := hWhole)
    ∧ quiescent_WholeIdeal (hWholeIdeal := hWholeIdeal)
    ∧ quiescent_WholeIdeal_pre_estimates_separate (hWholeIdeal := hWholeIdeal) (hPre_estimates_separate := hPre_estimates_separate)
    ∧ quiescent_WholeReferenceIdeal (hWholeReferenceIdeal := hWholeReferenceIdeal)
    ∧ quiescent_ExactIdeal (hExactIdeal := hExactIdeal)
    ∧ quiescent_ExactIdeal_pre_estimates_separate (hExactIdeal := hExactIdeal) (hPre_estimates_separate := hPre_estimates_separate)
    ∧ preserves_Kernel_KernelIdeal
    ∧ algebraic_KernelIdeal_ReferenceIdeal_pre_quartiles_in_order (hKernelIdeal := hKernelIdeal) (hReferenceIdeal := hReferenceIdeal) (hPre_quartiles_in_order := hPre_quartiles_in_order)
    ∧ preserves_Whole_WholeIdeal
    ∧ algebraic_WholeIdeal_WholeReferenceIdeal (hWholeIdeal := hWholeIdeal) (hWholeReferenceIdeal := hWholeReferenceIdeal)
    ∧ algebraic_WholeIdeal_ExactIdeal_pre_estimates_separate (hWholeIdeal := hWholeIdeal) (hExactIdeal := hExactIdeal) (hPre_estimates_separate := hPre_estimates_separate)
-- ==== Pre_estimates_separate.lean ====
abbrev S8192x8192 : Shape := ⟨2, ![8192, 8192]⟩
abbrev S67108864 : Shape := ⟨1, ![67108864]⟩
abbrev S_ : Shape := ⟨0, ![]⟩
abbrev S1 : Shape := ⟨1, ![1]⟩

class Facts : Prop where
  shapeCasts_S8192x8192_S67108864 : S8192x8192.ShapeCasts S67108864
  reducesTo_S67108864_S_d0 : S67108864.ReducesTo [0] S_
  h_S_ : 0 < S_.numel
  bcast_S_S1 : S_.BroadcastsInDim S1 (![] : Fin 0 → Fin S1.rank)
  bcast_S1_S67108864_0 : S1.BroadcastsInDim S67108864 (![0] : Fin 1 → Fin S67108864.rank)
  bcast_S_S67108864 : S_.BroadcastsInDim S67108864 (![] : Fin 0 → Fin S67108864.rank)
  bcast_S_S8192x8192 : S_.BroadcastsInDim S8192x8192 (![] : Fin 0 → Fin S8192x8192.rank)
  natLt_1_32 : 1 < 32
  bitsLt_bf16_f32 : FTy.bits .bf16 < FTy.bits .f32
  reducesTo_S8192x8192_S_d0_1 : S8192x8192.ReducesTo [0, 1] S_
  gather_S67108864_S1_S__n_0_n_n_0_0_1_wf : GatherDims.WF S67108864 S1 S_ [] [0] [] [0] [] 0 ![1]

variable [Facts]

variable {F : FTy → Type} [FloatOps F]
def comparator_f32_d0 : F .f32 → F .f32 → BitVec 1 :=
  fun l r =>
    let cst_9 := FloatOps.ofBits .f32 0x00000000#32
    let v24 := FloatOps.cmpf .oeq l cst_9
    let cst_10 := FloatOps.ofBits .f32 0x00000000#32
    let v25 := Scalar.select v24 cst_10 l
    let v26 := FloatOps.cmpf .une l l
    let cst_11 := FloatOps.ofBits .f32 0x7FC00000#32
    let v27 := Scalar.select v26 cst_11 v25
    let cst_12 := FloatOps.ofBits .f32 0x00000000#32
    let v28 := FloatOps.cmpf .oeq r cst_12
    let cst_13 := FloatOps.ofBits .f32 0x00000000#32
    let v29 := Scalar.select v28 cst_13 r
    let v30 := FloatOps.cmpf .une r r
    let cst_14 := FloatOps.ofBits .f32 0x7FC00000#32
    let v31 := Scalar.select v30 cst_14 v29
    let v32 := FloatOps.cmpfTotal .lt v27 v31
    v32
def gather_S67108864_S1_S__n_0_n_n_0_0_1 : GatherDims S67108864 S1 S_ where
  offsetDims := []
  collapsedSliceDims := [0]
  operandBatchingDims := []
  startIndicesBatchingDims := []
  startIndexMap := [0]
  indexVectorDim := 0
  sliceSizes := ![1]
  wf := gather_S67108864_S1_S__n_0_n_n_0_0_1_wf

def fn_where {F : FTy → Type} [FloatOps F] (arg0 : IVec S1 1) (arg1 : FVec F S_ .f32) (arg2 : FVec F S67108864 .f32) : FVec F S67108864 .f32 :=
  let v0 : FVec F S_ .f32 := id arg1
  let v1 : IVec S67108864 1 := broadcastInDim S67108864 ![0] bcast_S1_S67108864_0 arg0
  let v2 : FVec F S67108864 .f32 := broadcastInDim S67108864 ![] bcast_S_S67108864 v0
  let v3 : FVec F S67108864 .f32 := select v1 v2 arg2
  v3

def fn_quantile_part1 {F : FTy → Type} [FloatOps F] (v4 : FVec F S67108864 .f32) (v8 : FVec F S_ .f32) (v9 : FVec F S_ .f32) (v10 : FVec F S_ .f32) (v12 : FVec F S_ .f32) (v13 : FVec F S_ .f32) : FVec F S_ .f32 :=
  let cst_8 : FVec F S_ .f32 := constant S_ .f32 0x00000000#32
  let v14 : FVec F S_ .f32 := (fun lo x hi => minimumf (maximumf x lo) hi) cst_8 v8 v13
  let v15 : IVec S_ 32 := fptosi 32 v12
  let v16 : IVec S_ 32 := fptosi 32 v14
  let v17 : IVec S1 32 := broadcastInDim S1 ![] bcast_S_S1 v15
  let v18 : FVec F S_ .f32 := (fun x i => Host.gather gather_S67108864_S1_S__n_0_n_n_0_0_1 x i) v4 v17
  let v19 : IVec S1 32 := broadcastInDim S1 ![] bcast_S_S1 v16
  let v20 : FVec F S_ .f32 := (fun x i => Host.gather gather_S67108864_S1_S__n_0_n_n_0_0_1 x i) v4 v19
  let v21 : FVec F S_ .f32 := mulf v18 v10
  let v22 : FVec F S_ .f32 := mulf v20 v9
  let v23 : FVec F S_ .f32 := addf v21 v22
  v23

def fn_quantile {F : FTy → Type} [FloatOps F] (arg0 : FVec F S67108864 .f32) (arg1 : FVec F S_ .f32) : FVec F S_ .f32 :=
  let v0 : IVec S67108864 1 := cmpf .une arg0 arg0
  let c : IVec S_ 1 := constantI S_ 1 0#1
  let v1 : IVec S_ 1 := (fun x v => Host.reduce IntOp.ori x v reducesTo_S67108864_S_d0 h_S_) v0 c
  let v2 : IVec S1 1 := broadcastInDim S1 ![] bcast_S_S1 v1
  let cst : FVec F S_ .f32 := constant S_ .f32 0x7FC00000#32
  let v3 : FVec F S67108864 .f32 := fn_where (F := F) v2 cst arg0
  let v4 : FVec F S67108864 .f32 := (fun x => Host.sort S67108864 0 comparator_f32_d0 x) v3
  let cst_0 : FVec F S_ .f32 := constant S_ .f32 0x4C800000#32
  let cst_1 : FVec F S_ .f32 := constant S_ .f32 0x3F800000#32
  let v5 : FVec F S_ .f32 := subf cst_0 cst_1
  let v6 : FVec F S_ .f32 := mulf arg1 v5
  let v7 : FVec F S_ .f32 := Host.floor v6
  let v8 : FVec F S_ .f32 := Host.ceil v6
  let v9 : FVec F S_ .f32 := subf v6 v7
  let cst_2 : FVec F S_ .f32 := constant S_ .f32 0x3F800000#32
  let v10 : FVec F S_ .f32 := subf cst_2 v9
  let cst_3 : FVec F S_ .f32 := constant S_ .f32 0x4C800000#32
  let cst_4 : FVec F S_ .f32 := constant S_ .f32 0x3F800000#32
  let v11 : FVec F S_ .f32 := subf cst_3 cst_4
  let cst_5 : FVec F S_ .f32 := constant S_ .f32 0x00000000#32
  let v12 : FVec F S_ .f32 := (fun lo x hi => minimumf (maximumf x lo) hi) cst_5 v7 v11
  let cst_6 : FVec F S_ .f32 := constant S_ .f32 0x4C800000#32
  let cst_7 : FVec F S_ .f32 := constant S_ .f32 0x3F800000#32
  let v13 : FVec F S_ .f32 := subf cst_6 cst_7
  fn_quantile_part1 (F := F) v4 v8 v9 v10 v12 v13

def fn_where_0 {F : FTy → Type} [FloatOps F] (arg0 : IVec S_ 1) (arg1 : FVec F S_ .f32) (arg2 : FVec F S_ .f32) : FVec F S_ .f32 :=
  let v0 : FVec F S_ .f32 := select arg0 arg1 arg2
  v0

def fn_where_1 {F : FTy → Type} [FloatOps F] (arg0 : IVec S8192x8192 1) (arg1 : IVec S_ 32) (arg2 : IVec S_ 32) : IVec S8192x8192 32 :=
  let v0 : IVec S8192x8192 32 := broadcastInDim S8192x8192 ![] bcast_S_S8192x8192 arg1
  let v1 : IVec S8192x8192 32 := broadcastInDim S8192x8192 ![] bcast_S_S8192x8192 arg2
  let v2 : IVec S8192x8192 32 := select arg0 v0 v1
  v2

def fn_where_2 {F : FTy → Type} [FloatOps F] (arg0 : IVec S8192x8192 1) (arg1 : IVec S_ 32) (arg2 : IVec S8192x8192 32) : IVec S8192x8192 32 :=
  let v0 : IVec S8192x8192 32 := broadcastInDim S8192x8192 ![] bcast_S_S8192x8192 arg1
  let v1 : IVec S8192x8192 32 := select arg0 v0 arg2
  v1

def fn_part10 {F : FTy → Type} [FloatOps F] (main_v15 : IVec S8192x8192 32) (main_v158 : IVec S8192x8192 1) (main_v160 : IVec S8192x8192 1) (main_v162 : IVec S8192x8192 1) (main_c_73 : IVec S_ 32) (main_c_74 : IVec S_ 32) : IVec S8192x8192 1 :=
  let main_v163 : IVec S8192x8192 32 := fn_where_1 (F := F) main_v162 main_c_73 main_c_74
  let main_c_75 : IVec S_ 32 := constantI S_ 32 1#32
  let main_v164 : IVec S8192x8192 32 := fn_where_2 (F := F) main_v160 main_c_75 main_v163
  let main_c_76 : IVec S_ 32 := constantI S_ 32 0#32
  let main_v165 : IVec S8192x8192 32 := fn_where_2 (F := F) main_v158 main_c_76 main_v164
  let main_v166 : IVec S8192x8192 32 := id main_v165
  let main_v167 : IVec S8192x8192 1 := cmpi .eq main_v15 main_v166
  main_v167

def fn_part9 {F : FTy → Type} [FloatOps F] (main_v0 : FVec F S8192x8192 .f32) (main_v15 : IVec S8192x8192 32) (main_v64 : FVec F S_ .f32) (main_v110 : FVec F S_ .f32) (main_v122 : IVec S_ 32) (main_v126 : IVec S_ 32) (main_v136 : FVec F S_ .f32) (main_v143 : IVec S_ 1) (main_v145 : FVec F S_ .f32) : IVec S8192x8192 1 :=
  let main_v146 : FVec F S_ .f32 := fn_where_0 (F := F) main_v143 main_v145 main_v136
  let main_v147 : FVec F S_ .f32 := sitofp .f32 main_v122
  let main_cst_68 : FVec F S_ .f32 := constant S_ .f32 0x4C400000#32
  let main_v148 : FVec F S_ .f32 := subf main_cst_68 main_v147
  let main_v149 : IVec S_ 32 := subi main_v126 main_v122
  let main_v150 : FVec F S_ .f32 := sitofp .f32 main_v149
  let main_cst_69 : FVec F S_ .f32 := constant S_ .f32 0x3F800000#32
  let main_v151 : FVec F S_ .f32 := maximumf main_v150 main_cst_69
  let main_v152 : FVec F S_ .f32 := Host.divf main_v148 main_v151
  let main_c_70 : IVec S_ 32 := constantI S_ 32 50331648#32
  let main_v153 : IVec S_ 1 := cmpi .sle main_v122 main_c_70
  let main_cst_71 : FVec F S_ .f32 := constant S_ .f32 0x3C800000#32
  let main_v154 : FVec F S_ .f32 := mulf main_v152 main_cst_71
  let main_cst_72 : FVec F S_ .f32 := constant S_ .f32 0x3F948000#32
  let main_v155 : FVec F S_ .f32 := addf main_cst_72 main_v154
  let main_v156 : FVec F S_ .f32 := fn_where_0 (F := F) main_v153 main_v155 main_v146
  let main_v157 : FVec F S8192x8192 .f32 := broadcastInDim S8192x8192 ![] bcast_S_S8192x8192 main_v64
  let main_v158 : IVec S8192x8192 1 := cmpf .ole main_v0 main_v157
  let main_v159 : FVec F S8192x8192 .f32 := broadcastInDim S8192x8192 ![] bcast_S_S8192x8192 main_v110
  let main_v160 : IVec S8192x8192 1 := cmpf .ole main_v0 main_v159
  let main_v161 : FVec F S8192x8192 .f32 := broadcastInDim S8192x8192 ![] bcast_S_S8192x8192 main_v156
  let main_v162 : IVec S8192x8192 1 := cmpf .ole main_v0 main_v161
  let main_c_73 : IVec S_ 32 := constantI S_ 32 2#32
  let main_c_74 : IVec S_ 32 := constantI S_ 32 3#32
  fn_part10 (F := F) main_v15 main_v158 main_v160 main_v162 main_c_73 main_c_74

def fn_part8 {F : FTy → Type} [FloatOps F] (main_v0 : FVec F S8192x8192 .f32) (main_v15 : IVec S8192x8192 32) (main_v64 : FVec F S_ .f32) (main_v110 : FVec F S_ .f32) (main_v114 : IVec S_ 32) (main_v118 : IVec S_ 32) (main_v122 : IVec S_ 32) (main_v126 : IVec S_ 32) (main_v128 : FVec F S_ .f32) (main_v130 : FVec F S_ .f32) (main_cst_58 : FVec F S_ .f32) : IVec S8192x8192 1 :=
  let main_v131 : FVec F S_ .f32 := maximumf main_v130 main_cst_58
  let main_v132 : FVec F S_ .f32 := Host.divf main_v128 main_v131
  let main_c_59 : IVec S_ 32 := constantI S_ 32 50331648#32
  let main_v133 : IVec S_ 1 := cmpi .sle main_v114 main_c_59
  let main_cst_60 : FVec F S_ .f32 := constant S_ .f32 0x3C800000#32
  let main_v134 : FVec F S_ .f32 := mulf main_v132 main_cst_60
  let main_cst_61 : FVec F S_ .f32 := constant S_ .f32 0x3F908000#32
  let main_v135 : FVec F S_ .f32 := addf main_cst_61 main_v134
  let main_cst_62 : FVec F S_ .f32 := constant S_ .f32 0x3F908000#32
  let main_v136 : FVec F S_ .f32 := fn_where_0 (F := F) main_v133 main_v135 main_cst_62
  let main_v137 : FVec F S_ .f32 := sitofp .f32 main_v118
  let main_cst_63 : FVec F S_ .f32 := constant S_ .f32 0x4C400000#32
  let main_v138 : FVec F S_ .f32 := subf main_cst_63 main_v137
  let main_v139 : IVec S_ 32 := subi main_v122 main_v118
  let main_v140 : FVec F S_ .f32 := sitofp .f32 main_v139
  let main_cst_64 : FVec F S_ .f32 := constant S_ .f32 0x3F800000#32
  let main_v141 : FVec F S_ .f32 := maximumf main_v140 main_cst_64
  let main_v142 : FVec F S_ .f32 := Host.divf main_v138 main_v141
  let main_c_65 : IVec S_ 32 := constantI S_ 32 50331648#32
  let main_v143 : IVec S_ 1 := cmpi .sle main_v118 main_c_65
  let main_cst_66 : FVec F S_ .f32 := constant S_ .f32 0x3C800000#32
  let main_v144 : FVec F S_ .f32 := mulf main_v142 main_cst_66
  let main_cst_67 : FVec F S_ .f32 := constant S_ .f32 0x3F928000#32
  let main_v145 : FVec F S_ .f32 := addf main_cst_67 main_v144
  fn_part9 (F := F) main_v0 main_v15 main_v64 main_v110 main_v122 main_v126 main_v136 main_v143 main_v145

def fn_part7 {F : FTy → Type} [FloatOps F] (main_v0 : FVec F S8192x8192 .f32) (main_v15 : IVec S8192x8192 32) (main_v18 : FVec F S8192x8192 .f32) (main_v64 : FVec F S_ .f32) (main_v110 : FVec F S_ .f32) (main_v114 : IVec S_ 32) : IVec S8192x8192 1 :=
  let main_cst_51 : FVec F S_ .f32 := constant S_ .f32 0x3F920000#32
  let main_v115 : FVec F S8192x8192 .f32 := broadcastInDim S8192x8192 ![] bcast_S_S8192x8192 main_cst_51
  let main_v116 : IVec S8192x8192 1 := cmpf .ole main_v18 main_v115
  let main_v117 : IVec S8192x8192 32 := (extui 32 · natLt_1_32) main_v116
  let main_c_52 : IVec S_ 32 := constantI S_ 32 0#32
  let main_v118 : IVec S_ 32 := (fun x v => Host.reduce IntOp.addi x v reducesTo_S8192x8192_S_d0_1 h_S_) main_v117 main_c_52
  let main_cst_53 : FVec F S_ .f32 := constant S_ .f32 0x3F940000#32
  let main_v119 : FVec F S8192x8192 .f32 := broadcastInDim S8192x8192 ![] bcast_S_S8192x8192 main_cst_53
  let main_v120 : IVec S8192x8192 1 := cmpf .ole main_v18 main_v119
  let main_v121 : IVec S8192x8192 32 := (extui 32 · natLt_1_32) main_v120
  let main_c_54 : IVec S_ 32 := constantI S_ 32 0#32
  let main_v122 : IVec S_ 32 := (fun x v => Host.reduce IntOp.addi x v reducesTo_S8192x8192_S_d0_1 h_S_) main_v121 main_c_54
  let main_cst_55 : FVec F S_ .f32 := constant S_ .f32 0x3F960000#32
  let main_v123 : FVec F S8192x8192 .f32 := broadcastInDim S8192x8192 ![] bcast_S_S8192x8192 main_cst_55
  let main_v124 : IVec S8192x8192 1 := cmpf .ole main_v18 main_v123
  let main_v125 : IVec S8192x8192 32 := (extui 32 · natLt_1_32) main_v124
  let main_c_56 : IVec S_ 32 := constantI S_ 32 0#32
  let main_v126 : IVec S_ 32 := (fun x v => Host.reduce IntOp.addi x v reducesTo_S8192x8192_S_d0_1 h_S_) main_v125 main_c_56
  let main_v127 : FVec F S_ .f32 := sitofp .f32 main_v114
  let main_cst_57 : FVec F S_ .f32 := constant S_ .f32 0x4C400000#32
  let main_v128 : FVec F S_ .f32 := subf main_cst_57 main_v127
  let main_v129 : IVec S_ 32 := subi main_v118 main_v114
  let main_v130 : FVec F S_ .f32 := sitofp .f32 main_v129
  let main_cst_58 : FVec F S_ .f32 := constant S_ .f32 0x3F800000#32
  fn_part8 (F := F) main_v0 main_v15 main_v64 main_v110 main_v114 main_v118 main_v122 main_v126 main_v128 main_v130 main_cst_58

def fn_part6 {F : FTy → Type} [FloatOps F] (main_v0 : FVec F S8192x8192 .f32) (main_v15 : IVec S8192x8192 32) (main_v18 : FVec F S8192x8192 .f32) (main_v64 : FVec F S_ .f32) (main_v76 : IVec S_ 32) (main_v80 : IVec S_ 32) (main_v90 : FVec F S_ .f32) (main_v97 : IVec S_ 1) (main_v98 : FVec F S_ .f32) : IVec S8192x8192 1 :=
  let main_cst_43 : FVec F S_ .f32 := constant S_ .f32 0x3F2B8000#32
  let main_v99 : FVec F S_ .f32 := addf main_cst_43 main_v98
  let main_v100 : FVec F S_ .f32 := fn_where_0 (F := F) main_v97 main_v99 main_v90
  let main_v101 : FVec F S_ .f32 := sitofp .f32 main_v76
  let main_cst_44 : FVec F S_ .f32 := constant S_ .f32 0x4C000000#32
  let main_v102 : FVec F S_ .f32 := subf main_cst_44 main_v101
  let main_v103 : IVec S_ 32 := subi main_v80 main_v76
  let main_v104 : FVec F S_ .f32 := sitofp .f32 main_v103
  let main_cst_45 : FVec F S_ .f32 := constant S_ .f32 0x3F800000#32
  let main_v105 : FVec F S_ .f32 := maximumf main_v104 main_cst_45
  let main_v106 : FVec F S_ .f32 := Host.divf main_v102 main_v105
  let main_c_46 : IVec S_ 32 := constantI S_ 32 33554432#32
  let main_v107 : IVec S_ 1 := cmpi .sle main_v76 main_c_46
  let main_cst_47 : FVec F S_ .f32 := constant S_ .f32 0x3C800000#32
  let main_v108 : FVec F S_ .f32 := mulf main_v106 main_cst_47
  let main_cst_48 : FVec F S_ .f32 := constant S_ .f32 0x3F2F8000#32
  let main_v109 : FVec F S_ .f32 := addf main_cst_48 main_v108
  let main_v110 : FVec F S_ .f32 := fn_where_0 (F := F) main_v107 main_v109 main_v100
  let main_cst_49 : FVec F S_ .f32 := constant S_ .f32 0x3F900000#32
  let main_v111 : FVec F S8192x8192 .f32 := broadcastInDim S8192x8192 ![] bcast_S_S8192x8192 main_cst_49
  let main_v112 : IVec S8192x8192 1 := cmpf .ole main_v18 main_v111
  let main_v113 : IVec S8192x8192 32 := (extui 32 · natLt_1_32) main_v112
  let main_c_50 : IVec S_ 32 := constantI S_ 32 0#32
  let main_v114 : IVec S_ 32 := (fun x v => Host.reduce IntOp.addi x v reducesTo_S8192x8192_S_d0_1 h_S_) main_v113 main_c_50
  fn_part7 (F := F) main_v0 main_v15 main_v18 main_v64 main_v110 main_v114

def fn_part5 {F : FTy → Type} [FloatOps F] (main_v0 : FVec F S8192x8192 .f32) (main_v15 : IVec S8192x8192 32) (main_v18 : FVec F S8192x8192 .f32) (main_v64 : FVec F S_ .f32) (main_v68 : IVec S_ 32) (main_v72 : IVec S_ 32) (main_v76 : IVec S_ 32) (main_v80 : IVec S_ 32) (main_v82 : FVec F S_ .f32) (main_v83 : IVec S_ 32) : IVec S8192x8192 1 :=
  let main_v84 : FVec F S_ .f32 := sitofp .f32 main_v83
  let main_cst_34 : FVec F S_ .f32 := constant S_ .f32 0x3F800000#32
  let main_v85 : FVec F S_ .f32 := maximumf main_v84 main_cst_34
  let main_v86 : FVec F S_ .f32 := Host.divf main_v82 main_v85
  let main_c_35 : IVec S_ 32 := constantI S_ 32 33554432#32
  let main_v87 : IVec S_ 1 := cmpi .sle main_v68 main_c_35
  let main_cst_36 : FVec F S_ .f32 := constant S_ .f32 0x3C800000#32
  let main_v88 : FVec F S_ .f32 := mulf main_v86 main_cst_36
  let main_cst_37 : FVec F S_ .f32 := constant S_ .f32 0x3F278000#32
  let main_v89 : FVec F S_ .f32 := addf main_cst_37 main_v88
  let main_cst_38 : FVec F S_ .f32 := constant S_ .f32 0x3F278000#32
  let main_v90 : FVec F S_ .f32 := fn_where_0 (F := F) main_v87 main_v89 main_cst_38
  let main_v91 : FVec F S_ .f32 := sitofp .f32 main_v72
  let main_cst_39 : FVec F S_ .f32 := constant S_ .f32 0x4C000000#32
  let main_v92 : FVec F S_ .f32 := subf main_cst_39 main_v91
  let main_v93 : IVec S_ 32 := subi main_v76 main_v72
  let main_v94 : FVec F S_ .f32 := sitofp .f32 main_v93
  let main_cst_40 : FVec F S_ .f32 := constant S_ .f32 0x3F800000#32
  let main_v95 : FVec F S_ .f32 := maximumf main_v94 main_cst_40
  let main_v96 : FVec F S_ .f32 := Host.divf main_v92 main_v95
  let main_c_41 : IVec S_ 32 := constantI S_ 32 33554432#32
  let main_v97 : IVec S_ 1 := cmpi .sle main_v72 main_c_41
  let main_cst_42 : FVec F S_ .f32 := constant S_ .f32 0x3C800000#32
  let main_v98 : FVec F S_ .f32 := mulf main_v96 main_cst_42
  fn_part6 (F := F) main_v0 main_v15 main_v18 main_v64 main_v76 main_v80 main_v90 main_v97 main_v98

def fn_part4 {F : FTy → Type} [FloatOps F] (main_v0 : FVec F S8192x8192 .f32) (main_v15 : IVec S8192x8192 32) (main_v18 : FVec F S8192x8192 .f32) (main_v64 : FVec F S_ .f32) (main_v67 : IVec S8192x8192 32) : IVec S8192x8192 1 :=
  let main_c_26 : IVec S_ 32 := constantI S_ 32 0#32
  let main_v68 : IVec S_ 32 := (fun x v => Host.reduce IntOp.addi x v reducesTo_S8192x8192_S_d0_1 h_S_) main_v67 main_c_26
  let main_cst_27 : FVec F S_ .f32 := constant S_ .f32 0x3F2B0000#32
  let main_v69 : FVec F S8192x8192 .f32 := broadcastInDim S8192x8192 ![] bcast_S_S8192x8192 main_cst_27
  let main_v70 : IVec S8192x8192 1 := cmpf .ole main_v18 main_v69
  let main_v71 : IVec S8192x8192 32 := (extui 32 · natLt_1_32) main_v70
  let main_c_28 : IVec S_ 32 := constantI S_ 32 0#32
  let main_v72 : IVec S_ 32 := (fun x v => Host.reduce IntOp.addi x v reducesTo_S8192x8192_S_d0_1 h_S_) main_v71 main_c_28
  let main_cst_29 : FVec F S_ .f32 := constant S_ .f32 0x3F2F0000#32
  let main_v73 : FVec F S8192x8192 .f32 := broadcastInDim S8192x8192 ![] bcast_S_S8192x8192 main_cst_29
  let main_v74 : IVec S8192x8192 1 := cmpf .ole main_v18 main_v73
  let main_v75 : IVec S8192x8192 32 := (extui 32 · natLt_1_32) main_v74
  let main_c_30 : IVec S_ 32 := constantI S_ 32 0#32
  let main_v76 : IVec S_ 32 := (fun x v => Host.reduce IntOp.addi x v reducesTo_S8192x8192_S_d0_1 h_S_) main_v75 main_c_30
  let main_cst_31 : FVec F S_ .f32 := constant S_ .f32 0x3F330000#32
  let main_v77 : FVec F S8192x8192 .f32 := broadcastInDim S8192x8192 ![] bcast_S_S8192x8192 main_cst_31
  let main_v78 : IVec S8192x8192 1 := cmpf .ole main_v18 main_v77
  let main_v79 : IVec S8192x8192 32 := (extui 32 · natLt_1_32) main_v78
  let main_c_32 : IVec S_ 32 := constantI S_ 32 0#32
  let main_v80 : IVec S_ 32 := (fun x v => Host.reduce IntOp.addi x v reducesTo_S8192x8192_S_d0_1 h_S_) main_v79 main_c_32
  let main_v81 : FVec F S_ .f32 := sitofp .f32 main_v68
  let main_cst_33 : FVec F S_ .f32 := constant S_ .f32 0x4C000000#32
  let main_v82 : FVec F S_ .f32 := subf main_cst_33 main_v81
  let main_v83 : IVec S_ 32 := subi main_v72 main_v68
  fn_part5 (F := F) main_v0 main_v15 main_v18 main_v64 main_v68 main_v72 main_v76 main_v80 main_v82 main_v83

def fn_part3 {F : FTy → Type} [FloatOps F] (main_v0 : FVec F S8192x8192 .f32) (main_v15 : IVec S8192x8192 32) (main_v18 : FVec F S8192x8192 .f32) (main_v30 : IVec S_ 32) (main_v34 : IVec S_ 32) (main_v44 : FVec F S_ .f32) (main_v50 : FVec F S_ .f32) (main_v51 : IVec S_ 1) : IVec S8192x8192 1 :=
  let main_cst_18 : FVec F S_ .f32 := constant S_ .f32 0x3C800000#32
  let main_v52 : FVec F S_ .f32 := mulf main_v50 main_cst_18
  let main_cst_19 : FVec F S_ .f32 := constant S_ .f32 0x3E9F8000#32
  let main_v53 : FVec F S_ .f32 := addf main_cst_19 main_v52
  let main_v54 : FVec F S_ .f32 := fn_where_0 (F := F) main_v51 main_v53 main_v44
  let main_v55 : FVec F S_ .f32 := sitofp .f32 main_v30
  let main_cst_20 : FVec F S_ .f32 := constant S_ .f32 0x4B800000#32
  let main_v56 : FVec F S_ .f32 := subf main_cst_20 main_v55
  let main_v57 : IVec S_ 32 := subi main_v34 main_v30
  let main_v58 : FVec F S_ .f32 := sitofp .f32 main_v57
  let main_cst_21 : FVec F S_ .f32 := constant S_ .f32 0x3F800000#32
  let main_v59 : FVec F S_ .f32 := maximumf main_v58 main_cst_21
  let main_v60 : FVec F S_ .f32 := Host.divf main_v56 main_v59
  let main_c_22 : IVec S_ 32 := constantI S_ 32 16777216#32
  let main_v61 : IVec S_ 1 := cmpi .sle main_v30 main_c_22
  let main_cst_23 : FVec F S_ .f32 := constant S_ .f32 0x3C800000#32
  let main_v62 : FVec F S_ .f32 := mulf main_v60 main_cst_23
  let main_cst_24 : FVec F S_ .f32 := constant S_ .f32 0x3EA78000#32
  let main_v63 : FVec F S_ .f32 := addf main_cst_24 main_v62
  let main_v64 : FVec F S_ .f32 := fn_where_0 (F := F) main_v61 main_v63 main_v54
  let main_cst_25 : FVec F S_ .f32 := constant S_ .f32 0x3F270000#32
  let main_v65 : FVec F S8192x8192 .f32 := broadcastInDim S8192x8192 ![] bcast_S_S8192x8192 main_cst_25
  let main_v66 : IVec S8192x8192 1 := cmpf .ole main_v18 main_v65
  let main_v67 : IVec S8192x8192 32 := (extui 32 · natLt_1_32) main_v66
  fn_part4 (F := F) main_v0 main_v15 main_v18 main_v64 main_v67

def fn_part2 {F : FTy → Type} [FloatOps F] (main_v0 : FVec F S8192x8192 .f32) (main_v15 : IVec S8192x8192 32) (main_v18 : FVec F S8192x8192 .f32) (main_v22 : IVec S_ 32) (main_v26 : IVec S_ 32) (main_v30 : IVec S_ 32) (main_v34 : IVec S_ 32) (main_v35 : FVec F S_ .f32) (main_cst_9 : FVec F S_ .f32) : IVec S8192x8192 1 :=
  let main_v36 : FVec F S_ .f32 := subf main_cst_9 main_v35
  let main_v37 : IVec S_ 32 := subi main_v26 main_v22
  let main_v38 : FVec F S_ .f32 := sitofp .f32 main_v37
  let main_cst_10 : FVec F S_ .f32 := constant S_ .f32 0x3F800000#32
  let main_v39 : FVec F S_ .f32 := maximumf main_v38 main_cst_10
  let main_v40 : FVec F S_ .f32 := Host.divf main_v36 main_v39
  let main_c_11 : IVec S_ 32 := constantI S_ 32 16777216#32
  let main_v41 : IVec S_ 1 := cmpi .sle main_v22 main_c_11
  let main_cst_12 : FVec F S_ .f32 := constant S_ .f32 0x3C800000#32
  let main_v42 : FVec F S_ .f32 := mulf main_v40 main_cst_12
  let main_cst_13 : FVec F S_ .f32 := constant S_ .f32 0x3E978000#32
  let main_v43 : FVec F S_ .f32 := addf main_cst_13 main_v42
  let main_cst_14 : FVec F S_ .f32 := constant S_ .f32 0x3E978000#32
  let main_v44 : FVec F S_ .f32 := fn_where_0 (F := F) main_v41 main_v43 main_cst_14
  let main_v45 : FVec F S_ .f32 := sitofp .f32 main_v26
  let main_cst_15 : FVec F S_ .f32 := constant S_ .f32 0x4B800000#32
  let main_v46 : FVec F S_ .f32 := subf main_cst_15 main_v45
  let main_v47 : IVec S_ 32 := subi main_v30 main_v26
  let main_v48 : FVec F S_ .f32 := sitofp .f32 main_v47
  let main_cst_16 : FVec F S_ .f32 := constant S_ .f32 0x3F800000#32
  let main_v49 : FVec F S_ .f32 := maximumf main_v48 main_cst_16
  let main_v50 : FVec F S_ .f32 := Host.divf main_v46 main_v49
  let main_c_17 : IVec S_ 32 := constantI S_ 32 16777216#32
  let main_v51 : IVec S_ 1 := cmpi .sle main_v26 main_c_17
  fn_part3 (F := F) main_v0 main_v15 main_v18 main_v30 main_v34 main_v44 main_v50 main_v51

def fn_part1 {F : FTy → Type} [FloatOps F] (main_v0 : FVec F S8192x8192 .f32) (main_v15 : IVec S8192x8192 32) (main_v18 : FVec F S8192x8192 .f32) (main_v19 : FVec F S8192x8192 .f32) : IVec S8192x8192 1 :=
  let main_v20 : IVec S8192x8192 1 := cmpf .ole main_v18 main_v19
  let main_v21 : IVec S8192x8192 32 := (extui 32 · natLt_1_32) main_v20
  let main_c : IVec S_ 32 := constantI S_ 32 0#32
  let main_v22 : IVec S_ 32 := (fun x v => Host.reduce IntOp.addi x v reducesTo_S8192x8192_S_d0_1 h_S_) main_v21 main_c
  let main_cst_3 : FVec F S_ .f32 := constant S_ .f32 0x3E9F0000#32
  let main_v23 : FVec F S8192x8192 .f32 := broadcastInDim S8192x8192 ![] bcast_S_S8192x8192 main_cst_3
  let main_v24 : IVec S8192x8192 1 := cmpf .ole main_v18 main_v23
  let main_v25 : IVec S8192x8192 32 := (extui 32 · natLt_1_32) main_v24
  let main_c_4 : IVec S_ 32 := constantI S_ 32 0#32
  let main_v26 : IVec S_ 32 := (fun x v => Host.reduce IntOp.addi x v reducesTo_S8192x8192_S_d0_1 h_S_) main_v25 main_c_4
  let main_cst_5 : FVec F S_ .f32 := constant S_ .f32 0x3EA70000#32
  let main_v27 : FVec F S8192x8192 .f32 := broadcastInDim S8192x8192 ![] bcast_S_S8192x8192 main_cst_5
  let main_v28 : IVec S8192x8192 1 := cmpf .ole main_v18 main_v27
  let main_v29 : IVec S8192x8192 32 := (extui 32 · natLt_1_32) main_v28
  let main_c_6 : IVec S_ 32 := constantI S_ 32 0#32
  let main_v30 : IVec S_ 32 := (fun x v => Host.reduce IntOp.addi x v reducesTo_S8192x8192_S_d0_1 h_S_) main_v29 main_c_6
  let main_cst_7 : FVec F S_ .f32 := constant S_ .f32 0x3EAF0000#32
  let main_v31 : FVec F S8192x8192 .f32 := broadcastInDim S8192x8192 ![] bcast_S_S8192x8192 main_cst_7
  let main_v32 : IVec S8192x8192 1 := cmpf .ole main_v18 main_v31
  let main_v33 : IVec S8192x8192 32 := (extui 32 · natLt_1_32) main_v32
  let main_c_8 : IVec S_ 32 := constantI S_ 32 0#32
  let main_v34 : IVec S_ 32 := (fun x v => Host.reduce IntOp.addi x v reducesTo_S8192x8192_S_d0_1 h_S_) main_v33 main_c_8
  let main_v35 : FVec F S_ .f32 := sitofp .f32 main_v22
  let main_cst_9 : FVec F S_ .f32 := constant S_ .f32 0x4B800000#32
  fn_part2 (F := F) main_v0 main_v15 main_v18 main_v22 main_v26 main_v30 main_v34 main_v35 main_cst_9

def fn {F : FTy → Type} [FloatOps F] (main_arg0 : FVec F S8192x8192 .f32) (main_arg1 : FVec F S8192x8192 .f32) : IVec S8192x8192 1 :=
  let main_v0 : FVec F S8192x8192 .f32 := Host.absf main_arg1
  let main_v1 : FVec F S67108864 .f32 := shapeCast S67108864 main_v0 shapeCasts_S8192x8192_S67108864
  let main_cst : FVec F S_ .f32 := constant S_ .f32 0x3E800000#32
  let main_v2 : FVec F S_ .f32 := fn_quantile (F := F) main_v1 main_cst
  let main_cst_0 : FVec F S_ .f32 := constant S_ .f32 0x3F000000#32
  let main_v3 : FVec F S_ .f32 := fn_quantile (F := F) main_v1 main_cst_0
  let main_cst_1 : FVec F S_ .f32 := constant S_ .f32 0x3F400000#32
  let main_v4 : FVec F S_ .f32 := fn_quantile (F := F) main_v1 main_cst_1
  let main_v5 : FVec F S8192x8192 .f32 := broadcastInDim S8192x8192 ![] bcast_S_S8192x8192 main_v2
  let main_v6 : IVec S8192x8192 1 := cmpf .ogt main_v0 main_v5
  let main_v7 : IVec S8192x8192 32 := (extui 32 · natLt_1_32) main_v6
  let main_v8 : FVec F S8192x8192 .f32 := broadcastInDim S8192x8192 ![] bcast_S_S8192x8192 main_v3
  let main_v9 : IVec S8192x8192 1 := cmpf .ogt main_v0 main_v8
  let main_v10 : IVec S8192x8192 32 := (extui 32 · natLt_1_32) main_v9
  let main_v11 : IVec S8192x8192 32 := addi main_v7 main_v10
  let main_v12 : FVec F S8192x8192 .f32 := broadcastInDim S8192x8192 ![] bcast_S_S8192x8192 main_v4
  let main_v13 : IVec S8192x8192 1 := cmpf .ogt main_v0 main_v12
  let main_v14 : IVec S8192x8192 32 := (extui 32 · natLt_1_32) main_v13
  let main_v15 : IVec S8192x8192 32 := addi main_v11 main_v14
  let main_v16 : FVec F S8192x8192 .bf16 := (truncf .bf16 · bitsLt_bf16_f32) main_arg1
  let main_v17 : FVec F S8192x8192 .f32 := (extf .f32 · bitsLt_bf16_f32) main_v16
  let main_v18 : FVec F S8192x8192 .f32 := Host.absf main_v17
  let main_cst_2 : FVec F S_ .f32 := constant S_ .f32 0x3E970000#32
  let main_v19 : FVec F S8192x8192 .f32 := broadcastInDim S8192x8192 ![] bcast_S_S8192x8192 main_cst_2
  fn_part1 (F := F) main_v0 main_v15 main_v18 main_v19
-- ==== Pre_quartiles_in_order.lean ====
abbrev S8 : Shape := ⟨1, ![8]⟩
abbrev S8192x8192 : Shape := ⟨2, ![8192, 8192]⟩
abbrev S2 : Shape := ⟨1, ![2]⟩

class Facts : Prop where
  slices_S8_S2_0 : S8.Slices ![0] S2
  slices_S8_S2_1 : S8.Slices ![1] S2

variable [Facts]

def fn {F : FTy → Type} [FloatOps F] (main_arg0 : FVec F S8 .f32) (main_arg1 : FVec F S8192x8192 .f32) (main_arg2 : FVec F S8192x8192 .f32) : IVec S2 1 :=
  let main_v0 : FVec F S2 .f32 := (extractStridedSlice S2 ![0] · slices_S8_S2_0) main_arg0
  let main_v1 : FVec F S2 .f32 := (extractStridedSlice S2 ![1] · slices_S8_S2_1) main_arg0
  let main_v2 : IVec S2 1 := cmpf .ole main_v0 main_v1
  main_v2
-- ==== Kernel.lean ====
abbrev S8 : Shape := ⟨1, ![8]⟩
abbrev S8192x8192 : Shape := ⟨2, ![8192, 8192]⟩
abbrev S128x8192 : Shape := ⟨2, ![128, 8192]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S8, .f32⟩
  | .hbm, ⟨1, _⟩ => ⟨S8192x8192, .f32⟩
  | .hbm, ⟨2, _⟩ => ⟨S8192x8192, .f32⟩
  | .hbm, ⟨3, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8 : Shape := ⟨1, ![8]⟩
abbrev S8192x8192 : Shape := ⟨2, ![8192, 8192]⟩
abbrev S1 : Shape := ⟨1, ![1]⟩
abbrev S_ : Shape := ⟨0, ![]⟩

abbrev nBuf : Space → Nat
  | .hbm => 277
  | .vmem => 0
  | .smem => 0
  | _ => 0

abbrev hbmTy0_0 (i : Nat) : BufTy := match i % 128 with
  | 0 => ⟨S8, .f32⟩
  | 1 => ⟨S8192x8192, .f32⟩
  | 2 => ⟨S8192x8192, .f32⟩
  | 3 => ⟨S1, .f32⟩
  | 4 => ⟨S_, .f32⟩
  | 5 => ⟨S1, .f32⟩
  | 6 => ⟨S_, .f32⟩
  | 7 => ⟨S1, .f32⟩
  | 8 => ⟨S_, .f32⟩
  | 9 => ⟨S8192x8192, .f32⟩
  | 10 => ⟨S8192x8192, .f32⟩
  | 11 => ⟨S8192x8192, .i1⟩
  | 12 => ⟨S8192x8192, .i32⟩
  | 13 => ⟨S8192x8192, .f32⟩
  | 14 => ⟨S8192x8192, .i1⟩
  | 15 => ⟨S8192x8192, .i32⟩
  | 16 => ⟨S8192x8192, .i32⟩
  | 17 => ⟨S8192x8192, .f32⟩
  | 18 => ⟨S8192x8192, .i1⟩
  | 19 => ⟨S8192x8192, .i32⟩
  | 20 => ⟨S8192x8192, .i32⟩
  | 21 => ⟨S_, .f32⟩
  | 22 => ⟨S_, .f32⟩
  | 23 => ⟨S_, .f32⟩
  | 24 => ⟨S8192x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S_, .f32⟩
  | 31 => ⟨S8192x8192, .f32⟩
  | 32 => ⟨S8192x8192, .i1⟩
  | 33 => ⟨S8192x8192, .f32⟩
  | 34 => ⟨S8192x8192, .f32⟩
  | 35 => ⟨S_, .f32⟩
  | 36 => ⟨S8192x8192, .f32⟩
  | 37 => ⟨S8192x8192, .f32⟩
  | 38 => ⟨S_, .f32⟩
  | 39 => ⟨S_, .f32⟩
  | 40 => ⟨S8192x8192, .f32⟩
  | 41 => ⟨S8192x8192, .f32⟩
  | 42 => ⟨S8192x8192, .f32⟩
  | 43 => ⟨S8192x8192, .f32⟩
  | 44 => ⟨S_, .i32⟩
  | 45 => ⟨S_, .i32⟩
  | 46 => ⟨S_, .f32⟩
  | 47 => ⟨S8192x8192, .f32⟩
  | 48 => ⟨S8192x8192, .f32⟩
  | 49 => ⟨S_, .f32⟩
  | 50 => ⟨S8192x8192, .f32⟩
  | 51 => ⟨S8192x8192, .f32⟩
  | 52 => ⟨S8192x8192, .f32⟩
  | 53 => ⟨S8192x8192, .f32⟩
  | 54 => ⟨S8192x8192, .f32⟩
  | 55 => ⟨S8192x8192, .f32⟩
  | 56 => ⟨S_, .f32⟩
  | 57 => ⟨S8192x8192, .f32⟩
  | 58 => ⟨S8192x8192, .f32⟩
  | 59 => ⟨S_, .f32⟩
  | 60 => ⟨S8192x8192, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | 66 => ⟨S_, .f32⟩
  | 67 => ⟨S_, .f32⟩
  | 68 => ⟨S_, .f32⟩
  | 69 => ⟨S8192x8192, .f32⟩
  | 70 => ⟨S8192x8192, .f32⟩
  | 71 => ⟨S_, .f32⟩
  | 72 => ⟨S8192x8192, .f32⟩
  | 73 => ⟨S8192x8192, .f32⟩
  | 74 => ⟨S8192x8192, .f32⟩
  | 75 => ⟨S_, .f32⟩
  | 76 => ⟨S8192x8192, .f32⟩
  | 77 => ⟨S8192x8192, .f32⟩
  | 78 => ⟨S8192x8192, .f32⟩
  | 79 => ⟨S_, .f32⟩
  | 80 => ⟨S8192x8192, .f32⟩
  | 81 => ⟨S8192x8192, .f32⟩
  | 82 => ⟨S_, .f32⟩
  | 83 => ⟨S_, .f32⟩
  | 84 => ⟨S_, .f32⟩
  | 85 => ⟨S8192x8192, .f32⟩
  | 86 => ⟨S8192x8192, .f32⟩
  | 87 => ⟨S_, .f32⟩
  | 88 => ⟨S8192x8192, .f32⟩
  | 89 => ⟨S8192x8192, .f32⟩
  | 90 => ⟨S8192x8192, .f32⟩
  | 91 => ⟨S_, .f32⟩
  | 92 => ⟨S8192x8192, .f32⟩
  | 93 => ⟨S8192x8192, .i1⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S_, .f32⟩
  | 100 => ⟨S_, .f32⟩
  | 101 => ⟨S8192x8192, .f32⟩
  | 102 => ⟨S8192x8192, .f32⟩
  | 103 => ⟨S8192x8192, .f32⟩
  | 104 => ⟨S8192x8192, .f32⟩
  | 105 => ⟨S_, .i32⟩
  | 106 => ⟨S_, .i32⟩
  | 107 => ⟨S_, .f32⟩
  | 108 => ⟨S8192x8192, .f32⟩
  | 109 => ⟨S8192x8192, .f32⟩
  | 110 => ⟨S_, .f32⟩
  | 111 => ⟨S8192x8192, .f32⟩
  | 112 => ⟨S8192x8192, .f32⟩
  | 113 => ⟨S8192x8192, .f32⟩
  | 114 => ⟨S8192x8192, .f32⟩
  | 115 => ⟨S8192x8192, .f32⟩
  | 116 => ⟨S8192x8192, .f32⟩
  | 117 => ⟨S_, .f32⟩
  | 118 => ⟨S8192x8192, .f32⟩
  | 119 => ⟨S8192x8192, .f32⟩
  | 120 => ⟨S_, .f32⟩
  | 121 => ⟨S8192x8192, .f32⟩
  | 122 => ⟨S8192x8192, .f32⟩
  | 123 => ⟨S8192x8192, .f32⟩
  | 124 => ⟨S_, .f32⟩
  | 125 => ⟨S8192x8192, .f32⟩
  | 126 => ⟨S8192x8192, .f32⟩
  | 127 => ⟨S_, .f32⟩
  | _ => ⟨S8, .f32⟩

abbrev hbmTy0_1 (i : Nat) : BufTy := match i % 128 with
  | 0 => ⟨S_, .f32⟩
  | 1 => ⟨S_, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S8192x8192, .f32⟩
  | 8 => ⟨S_, .f32⟩
  | 9 => ⟨S8192x8192, .f32⟩
  | 10 => ⟨S8192x8192, .f32⟩
  | 11 => ⟨S8192x8192, .f32⟩
  | 12 => ⟨S_, .f32⟩
  | 13 => ⟨S8192x8192, .f32⟩
  | 14 => ⟨S8192x8192, .f32⟩
  | 15 => ⟨S_, .f32⟩
  | 16 => ⟨S_, .f32⟩
  | 17 => ⟨S_, .f32⟩
  | 18 => ⟨S8192x8192, .f32⟩
  | 19 => ⟨S8192x8192, .f32⟩
  | 20 => ⟨S_, .f32⟩
  | 21 => ⟨S8192x8192, .f32⟩
  | 22 => ⟨S8192x8192, .f32⟩
  | 23 => ⟨S8192x8192, .f32⟩
  | 24 => ⟨S_, .f32⟩
  | 25 => ⟨S8192x8192, .f32⟩
  | 26 => ⟨S8192x8192, .i1⟩
  | 27 => ⟨S8192x8192, .f32⟩
  | 28 => ⟨S8192x8192, .f32⟩
  | 29 => ⟨S_, .f32⟩
  | 30 => ⟨S8192x8192, .f32⟩
  | 31 => ⟨S8192x8192, .f32⟩
  | 32 => ⟨S_, .f32⟩
  | 33 => ⟨S_, .f32⟩
  | 34 => ⟨S8192x8192, .f32⟩
  | 35 => ⟨S8192x8192, .f32⟩
  | 36 => ⟨S8192x8192, .f32⟩
  | 37 => ⟨S8192x8192, .f32⟩
  | 38 => ⟨S_, .i32⟩
  | 39 => ⟨S_, .i32⟩
  | 40 => ⟨S_, .f32⟩
  | 41 => ⟨S8192x8192, .f32⟩
  | 42 => ⟨S8192x8192, .f32⟩
  | 43 => ⟨S_, .f32⟩
  | 44 => ⟨S8192x8192, .f32⟩
  | 45 => ⟨S8192x8192, .f32⟩
  | 46 => ⟨S8192x8192, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S_, .f32⟩
  | 61 => ⟨S_, .f32⟩
  | 62 => ⟨S_, .f32⟩
  | 63 => ⟨S8192x8192, .f32⟩
  | 64 => ⟨S8192x8192, .f32⟩
  | 65 => ⟨S_, .f32⟩
  | 66 => ⟨S8192x8192, .f32⟩
  | 67 => ⟨S8192x8192, .f32⟩
  | 68 => ⟨S8192x8192, .f32⟩
  | 69 => ⟨S_, .f32⟩
  | 70 => ⟨S8192x8192, .f32⟩
  | 71 => ⟨S8192x8192, .f32⟩
  | 72 => ⟨S8192x8192, .f32⟩
  | 73 => ⟨S_, .f32⟩
  | 74 => ⟨S8192x8192, .f32⟩
  | 75 => ⟨S8192x8192, .f32⟩
  | 76 => ⟨S_, .f32⟩
  | 77 => ⟨S_, .f32⟩
  | 78 => ⟨S_, .f32⟩
  | 79 => ⟨S8192x8192, .f32⟩
  | 80 => ⟨S8192x8192, .f32⟩
  | 81 => ⟨S_, .f32⟩
  | 82 => ⟨S8192x8192, .f32⟩
  | 83 => ⟨S8192x8192, .f32⟩
  | 84 => ⟨S8192x8192, .f32⟩
  | 85 => ⟨S_, .f32⟩
  | 86 => ⟨S8192x8192, .f32⟩
  | 87 => ⟨S8192x8192, .i1⟩
  | 88 => ⟨S8192x8192, .f32⟩
  | 89 => ⟨S8192x8192, .f32⟩
  | 90 => ⟨S_, .f32⟩
  | 91 => ⟨S8192x8192, .f32⟩
  | 92 => ⟨S8192x8192, .f32⟩
  | 93 => ⟨S_, .f32⟩
  | 94 => ⟨S_, .f32⟩
  | 95 => ⟨S8192x8192, .f32⟩
  | 96 => ⟨S8192x8192, .f32⟩
  | 97 => ⟨S8192x8192, .f32⟩
  | 98 => ⟨S8192x8192, .f32⟩
  | 99 => ⟨S_, .i32⟩
  | 100 => ⟨S_, .i32⟩
  | 101 => ⟨S_, .f32⟩
  | 102 => ⟨S8192x8192, .f32⟩
  | 103 => ⟨S8192x8192, .f32⟩
  | 104 => ⟨S_, .f32⟩
  | 105 => ⟨S8192x8192, .f32⟩
  | 106 => ⟨S8192x8192, .f32⟩
  | 107 => ⟨S8192x8192, .f32⟩
  | 108 => ⟨S8192x8192, .f32⟩
  | 109 => ⟨S8192x8192, .f32⟩
  | 110 => ⟨S8192x8192, .f32⟩
  | 111 => ⟨S_, .f32⟩
  | 112 => ⟨S8192x8192, .f32⟩
  | 113 => ⟨S8192x8192, .f32⟩
  | 114 => ⟨S_, .f32⟩
  | 115 => ⟨S8192x8192, .f32⟩
  | 116 => ⟨S8192x8192, .f32⟩
  | 117 => ⟨S8192x8192, .f32⟩
  | 118 => ⟨S_, .f32⟩
  | 119 => ⟨S8192x8192, .f32⟩
  | 120 => ⟨S8192x8192, .f32⟩
  | 121 => ⟨S_, .f32⟩
  | 122 => ⟨S_, .f32⟩
  | 123 => ⟨S_, .f32⟩
  | 124 => ⟨S8192x8192, .f32⟩
  | 125 => ⟨S8192x8192, .f32⟩
  | 126 => ⟨S_, .f32⟩
  | 127 => ⟨S8192x8192, .f32⟩
  | _ => ⟨S8, .f32⟩

abbrev hbmTy0_2 (i : Nat) : BufTy := match i % 128 with
  | 0 => ⟨S8192x8192, .f32⟩
  | 1 => ⟨S8192x8192, .f32⟩
  | 2 => ⟨S_, .f32⟩
  | 3 => ⟨S8192x8192, .f32⟩
  | 4 => ⟨S8192x8192, .f32⟩
  | 5 => ⟨S8192x8192, .f32⟩
  | 6 => ⟨S_, .f32⟩
  | 7 => ⟨S8192x8192, .f32⟩
  | 8 => ⟨S8192x8192, .f32⟩
  | 9 => ⟨S_, .i32⟩
  | 10 => ⟨S8192x8192, .i32⟩
  | 11 => ⟨S8192x8192, .i1⟩
  | 12 => ⟨S_, .i32⟩
  | 13 => ⟨S8192x8192, .i32⟩
  | 14 => ⟨S8192x8192, .i1⟩
  | 15 => ⟨S_, .i32⟩
  | 16 => ⟨S8192x8192, .i32⟩
  | 17 => ⟨S8192x8192, .i1⟩
  | 18 => ⟨S8192x8192, .f32⟩
  | 19 => ⟨S8192x8192, .f32⟩
  | 20 => ⟨S8192x8192, .f32⟩
  | _ => ⟨S8, .f32⟩

abbrev hbmTy (i : Nat) : BufTy := match i / 128 with
  | 0 => hbmTy0_0 i
  | 1 => hbmTy0_1 i
  | 2 => hbmTy0_2 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_cst_9 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_cst_13 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v50 : Ref sig .tc := ⟨.hbm, 89, rfl⟩
abbrev main_v51 : Ref sig .tc := ⟨.hbm, 90, rfl⟩
abbrev main_cst_14 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_15 : Ref sig .tc := ⟨.hbm, 96, rfl⟩
abbrev main_v56 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_17 : Ref sig .tc := ⟨.hbm, 105, rfl⟩
abbrev main_c_18 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_19 : Ref sig .tc := ⟨.hbm, 117, rfl⟩
abbrev main_v68 : Ref sig .tc := ⟨.hbm, 118, rfl⟩
abbrev main_v69 : Ref sig .tc := ⟨.hbm, 119, rfl⟩
abbrev main_cst_20 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_21 : Ref sig .tc := ⟨.hbm, 124, rfl⟩
abbrev main_v73 : Ref sig .tc := ⟨.hbm, 125, rfl⟩
abbrev main_v74 : Ref sig .tc := ⟨.hbm, 126, rfl⟩
abbrev main_cst_22 : Ref sig .tc := ⟨.hbm, 127, rfl⟩
abbrev main_cst_23 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_v75 : Ref sig .tc := ⟨.hbm, 134, rfl⟩
abbrev main_v76 : Ref sig .tc := ⟨.hbm, 135, rfl⟩
abbrev main_cst_24 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_25 : Ref sig .tc := ⟨.hbm, 140, rfl⟩
abbrev main_v80 : Ref sig .tc := ⟨.hbm, 141, rfl⟩
abbrev main_v81 : Ref sig .tc := ⟨.hbm, 142, rfl⟩
abbrev main_cst_26 : Ref sig .tc := ⟨.hbm, 143, rfl⟩
abbrev main_cst_27 : Ref sig .tc := ⟨.hbm, 144, rfl⟩
abbrev main_call10_v0 : Ref sig .tc := ⟨.hbm, 145, rfl⟩
abbrev main_call10_v1 : Ref sig .tc := ⟨.hbm, 146, rfl⟩
abbrev main_call10_v2 : Ref sig .tc := ⟨.hbm, 147, rfl⟩
abbrev main_call10_v3 : Ref sig .tc := ⟨.hbm, 148, rfl⟩
abbrev main_call10_v4 : Ref sig .tc := ⟨.hbm, 149, rfl⟩
abbrev main_v82 : Ref sig .tc := ⟨.hbm, 150, rfl⟩
abbrev main_v83 : Ref sig .tc := ⟨.hbm, 151, rfl⟩
abbrev main_cst_28 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_29 : Ref sig .tc := ⟨.hbm, 157, rfl⟩
abbrev main_v88 : Ref sig .tc := ⟨.hbm, 158, rfl⟩
abbrev main_v89 : Ref sig .tc := ⟨.hbm, 159, rfl⟩
abbrev main_cst_30 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_c_31 : Ref sig .tc := ⟨.hbm, 166, rfl⟩
abbrev main_c_32 : Ref sig .tc := ⟨.hbm, 167, rfl⟩
abbrev main_call11_v0 : Ref sig .tc := ⟨.hbm, 168, rfl⟩
abbrev main_call11_v1 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_cst_33 : Ref sig .tc := ⟨.hbm, 178, rfl⟩
abbrev main_v100 : Ref sig .tc := ⟨.hbm, 179, rfl⟩
abbrev main_v101 : Ref sig .tc := ⟨.hbm, 180, rfl⟩
abbrev main_cst_34 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_35 : Ref sig .tc := ⟨.hbm, 185, rfl⟩
abbrev main_v105 : Ref sig .tc := ⟨.hbm, 186, rfl⟩
abbrev main_v106 : Ref sig .tc := ⟨.hbm, 187, rfl⟩
abbrev main_cst_36 : Ref sig .tc := ⟨.hbm, 188, rfl⟩
abbrev main_cst_37 : Ref sig .tc := ⟨.hbm, 189, rfl⟩
abbrev main_call13_v0 : Ref sig .tc := ⟨.hbm, 190, rfl⟩
abbrev main_call13_v1 : Ref sig .tc := ⟨.hbm, 191, rfl⟩
abbrev main_call13_v2 : Ref sig .tc := ⟨.hbm, 192, rfl⟩
abbrev main_call13_v3 : Ref sig .tc := ⟨.hbm, 193, rfl⟩
abbrev main_call13_v4 : Ref sig .tc := ⟨.hbm, 194, rfl⟩
abbrev main_v107 : Ref sig .tc := ⟨.hbm, 195, rfl⟩
abbrev main_v108 : Ref sig .tc := ⟨.hbm, 196, rfl⟩
abbrev main_cst_38 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_39 : Ref sig .tc := ⟨.hbm, 201, rfl⟩
abbrev main_v112 : Ref sig .tc := ⟨.hbm, 202, rfl⟩
abbrev main_v113 : Ref sig .tc := ⟨.hbm, 203, rfl⟩
abbrev main_cst_40 : Ref sig .tc := ⟨.hbm, 204, rfl⟩
abbrev main_cst_41 : Ref sig .tc := ⟨.hbm, 205, rfl⟩
abbrev main_call15_v0 : Ref sig .tc := ⟨.hbm, 206, rfl⟩
abbrev main_call15_v1 : Ref sig .tc := ⟨.hbm, 207, rfl⟩
abbrev main_call15_v2 : Ref sig .tc := ⟨.hbm, 208, rfl⟩
abbrev main_call15_v3 : Ref sig .tc := ⟨.hbm, 209, rfl⟩
abbrev main_call15_v4 : Ref sig .tc := ⟨.hbm, 210, rfl⟩
abbrev main_v114 : Ref sig .tc := ⟨.hbm, 211, rfl⟩
abbrev main_v115 : Ref sig .tc := ⟨.hbm, 212, rfl⟩
abbrev main_cst_42 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_cst_43 : Ref sig .tc := ⟨.hbm, 218, rfl⟩
abbrev main_v120 : Ref sig .tc := ⟨.hbm, 219, rfl⟩
abbrev main_v121 : Ref sig .tc := ⟨.hbm, 220, rfl⟩
abbrev main_cst_44 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_c_45 : Ref sig .tc := ⟨.hbm, 227, rfl⟩
abbrev main_c_46 : Ref sig .tc := ⟨.hbm, 228, rfl⟩
abbrev main_call16_v0 : Ref sig .tc := ⟨.hbm, 229, rfl⟩
abbrev main_call16_v1 : Ref sig .tc := ⟨.hbm, 230, rfl⟩
abbrev main_call16_v2 : Ref sig .tc := ⟨.hbm, 231, rfl⟩
abbrev main_call16_v3 : Ref sig .tc := ⟨.hbm, 232, rfl⟩
abbrev main_call16_v4 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_cst_47 : Ref sig .tc := ⟨.hbm, 239, rfl⟩
abbrev main_v132 : Ref sig .tc := ⟨.hbm, 240, rfl⟩
abbrev main_v133 : Ref sig .tc := ⟨.hbm, 241, rfl⟩
abbrev main_cst_48 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_cst_49 : Ref sig .tc := ⟨.hbm, 246, rfl⟩
abbrev main_v137 : Ref sig .tc := ⟨.hbm, 247, rfl⟩
abbrev main_v138 : Ref sig .tc := ⟨.hbm, 248, rfl⟩
abbrev main_cst_50 : Ref sig .tc := ⟨.hbm, 249, rfl⟩
abbrev main_cst_51 : Ref sig .tc := ⟨.hbm, 250, rfl⟩
abbrev main_call18_v0 : Ref sig .tc := ⟨.hbm, 251, rfl⟩
abbrev main_call18_v1 : Ref sig .tc := ⟨.hbm, 252, rfl⟩
abbrev main_call18_v2 : Ref sig .tc := ⟨.hbm, 253, rfl⟩
abbrev main_call18_v3 : Ref sig .tc := ⟨.hbm, 254, rfl⟩
abbrev main_call18_v4 : Ref sig .tc := ⟨.hbm, 255, rfl⟩
abbrev main_v139 : Ref sig .tc := ⟨.hbm, 256, rfl⟩
abbrev main_v140 : Ref sig .tc := ⟨.hbm, 257, rfl⟩
abbrev main_cst_52 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_cst_53 : Ref sig .tc := ⟨.hbm, 262, rfl⟩
abbrev main_v144 : Ref sig .tc := ⟨.hbm, 263, rfl⟩
abbrev main_v145 : Ref sig .tc := ⟨.hbm, 264, rfl⟩
abbrev main_c_54 : Ref sig .tc := ⟨.hbm, 265, rfl⟩
abbrev main_v146 : Ref sig .tc := ⟨.hbm, 266, rfl⟩
abbrev main_v147 : Ref sig .tc := ⟨.hbm, 267, rfl⟩
abbrev main_c_55 : Ref sig .tc := ⟨.hbm, 268, rfl⟩
abbrev main_v148 : Ref sig .tc := ⟨.hbm, 269, rfl⟩
abbrev main_v149 : Ref sig .tc := ⟨.hbm, 270, rfl⟩
abbrev main_c_56 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩

abbrev nD : Nat := 1
abbrev τ : Topo := Topo.v7x

variable {F : FTy → Type} [FloatOps F]
-- ==== Whole.lean ====
abbrev S8192x8192 : Shape := ⟨2, ![8192, 8192]⟩
abbrev S1x8 : Shape := ⟨2, ![1, 8]⟩
abbrev S512x8192 : Shape := ⟨2, ![512, 8192]⟩
abbrev S12x16x8192 : Shape := ⟨3, ![12, 16, 8192]⟩
abbrev S256x8192 : Shape := ⟨2, ![256, 8192]⟩
abbrev S128x8192 : Shape := ⟨2, ![128, 8192]⟩
abbrev S64x8192 : Shape := ⟨2, ![64, 8192]⟩
abbrev S32x8192 : Shape := ⟨2, ![32, 8192]⟩
abbrev S16x8192 : Shape := ⟨2, ![16, 8192]⟩
abbrev S1x16x8192 : Shape := ⟨3, ![1, 16, 8192]⟩
abbrev S1 : Shape := ⟨1, ![1]⟩
abbrev S1x1x1 : Shape := ⟨3, ![1, 1, 1]⟩
abbrev S8 : Shape := ⟨1, ![8]⟩

abbrev nBuf : Space → Nat
  | .hbm => 5
  | .vmem => 10
  | .smem => 1
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S1x8, .f32⟩
  | .hbm, ⟨3, _⟩ => ⟨S8, .f32⟩
  | .hbm, ⟨4, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S1x8, .f32⟩
  | .local _ .vmem, ⟨3, _⟩ => ⟨S12x16x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | .local _ .vmem, ⟨9, _⟩ => ⟨S128x8192, .f32⟩
  | .local _ .smem, ⟨0, _⟩ => ⟨S8, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [BitOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v330 : BitVec 1 := Scalar.cmpi .eq arg0 c15_i32
  let v331 : BitVec 32 := Scalar.extui v330
  let c0_i32_98 : BitVec 32 := 0#32
  let v332 : BitVec 1 := Scalar.cmpi .ne v331 c0_i32_98
  v332

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== WholeIdeal.lean ====
variable {F : FTy → Type} [FloatOps F] [Named F]
def κ : String → Option EReal := fun
  | "inv_ln2" => some (((Real.log 2)⁻¹ : ℝ) : EReal)
  | _ => none
-- ==== WholeReferenceIdeal.lean ====
abbrev S8192x8192 : Shape := ⟨2, ![8192, 8192]⟩
abbrev S_ : Shape := ⟨0, ![]⟩

abbrev nBuf : Space → Nat
  | .hbm => 469
  | .vmem => 0
  | .smem => 0
  | _ => 0

abbrev hbmTy0_0 (i : Nat) : BufTy := match i % 128 with
  | 0 => ⟨S8192x8192, .f32⟩
  | 1 => ⟨S8192x8192, .f32⟩
  | 2 => ⟨S8192x8192, .f32⟩
  | 3 => ⟨S8192x8192, .bf16⟩
  | 4 => ⟨S8192x8192, .f32⟩
  | 5 => ⟨S8192x8192, .f32⟩
  | 6 => ⟨S_, .f32⟩
  | 7 => ⟨S8192x8192, .f32⟩
  | 8 => ⟨S8192x8192, .i1⟩
  | 9 => ⟨S8192x8192, .i32⟩
  | 10 => ⟨S_, .i32⟩
  | 11 => ⟨S_, .i32⟩
  | 12 => ⟨S_, .f32⟩
  | 13 => ⟨S8192x8192, .f32⟩
  | 14 => ⟨S8192x8192, .i1⟩
  | 15 => ⟨S8192x8192, .i32⟩
  | 16 => ⟨S_, .i32⟩
  | 17 => ⟨S_, .i32⟩
  | 18 => ⟨S_, .f32⟩
  | 19 => ⟨S8192x8192, .f32⟩
  | 20 => ⟨S8192x8192, .i1⟩
  | 21 => ⟨S8192x8192, .i32⟩
  | 22 => ⟨S_, .i32⟩
  | 23 => ⟨S_, .i32⟩
  | 24 => ⟨S_, .f32⟩
  | 25 => ⟨S8192x8192, .f32⟩
  | 26 => ⟨S8192x8192, .i1⟩
  | 27 => ⟨S8192x8192, .i32⟩
  | 28 => ⟨S_, .i32⟩
  | 29 => ⟨S_, .i32⟩
  | 30 => ⟨S_, .f32⟩
  | 31 => ⟨S_, .f32⟩
  | 32 => ⟨S_, .f32⟩
  | 33 => ⟨S_, .i32⟩
  | 34 => ⟨S_, .f32⟩
  | 35 => ⟨S_, .f32⟩
  | 36 => ⟨S_, .f32⟩
  | 37 => ⟨S_, .f32⟩
  | 38 => ⟨S_, .i32⟩
  | 39 => ⟨S_, .i1⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i32⟩
  | 50 => ⟨S_, .f32⟩
  | 51 => ⟨S_, .f32⟩
  | 52 => ⟨S_, .f32⟩
  | 53 => ⟨S_, .f32⟩
  | 54 => ⟨S_, .i32⟩
  | 55 => ⟨S_, .i1⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i32⟩
  | 65 => ⟨S_, .f32⟩
  | 66 => ⟨S_, .f32⟩
  | 67 => ⟨S_, .f32⟩
  | 68 => ⟨S_, .f32⟩
  | 69 => ⟨S_, .i32⟩
  | 70 => ⟨S_, .i1⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8192x8192, .f32⟩
  | 78 => ⟨S8192x8192, .i1⟩
  | 79 => ⟨S8192x8192, .i32⟩
  | 80 => ⟨S_, .i32⟩
  | 81 => ⟨S_, .i32⟩
  | 82 => ⟨S_, .f32⟩
  | 83 => ⟨S8192x8192, .f32⟩
  | 84 => ⟨S8192x8192, .i1⟩
  | 85 => ⟨S8192x8192, .i32⟩
  | 86 => ⟨S_, .i32⟩
  | 87 => ⟨S_, .i32⟩
  | 88 => ⟨S_, .f32⟩
  | 89 => ⟨S8192x8192, .f32⟩
  | 90 => ⟨S8192x8192, .i1⟩
  | 91 => ⟨S8192x8192, .i32⟩
  | 92 => ⟨S_, .i32⟩
  | 93 => ⟨S_, .i32⟩
  | 94 => ⟨S_, .f32⟩
  | 95 => ⟨S8192x8192, .f32⟩
  | 96 => ⟨S8192x8192, .i1⟩
  | 97 => ⟨S8192x8192, .i32⟩
  | 98 => ⟨S_, .i32⟩
  | 99 => ⟨S_, .i32⟩
  | 100 => ⟨S_, .f32⟩
  | 101 => ⟨S_, .f32⟩
  | 102 => ⟨S_, .f32⟩
  | 103 => ⟨S_, .i32⟩
  | 104 => ⟨S_, .f32⟩
  | 105 => ⟨S_, .f32⟩
  | 106 => ⟨S_, .f32⟩
  | 107 => ⟨S_, .f32⟩
  | 108 => ⟨S_, .i32⟩
  | 109 => ⟨S_, .i1⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i32⟩
  | 120 => ⟨S_, .f32⟩
  | 121 => ⟨S_, .f32⟩
  | 122 => ⟨S_, .f32⟩
  | 123 => ⟨S_, .f32⟩
  | 124 => ⟨S_, .i32⟩
  | 125 => ⟨S_, .i1⟩
  | 126 => ⟨S_, .f32⟩
  | 127 => ⟨S_, .f32⟩
  | _ => ⟨S8192x8192, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .i32⟩
  | 7 => ⟨S_, .f32⟩
  | 8 => ⟨S_, .f32⟩
  | 9 => ⟨S_, .f32⟩
  | 10 => ⟨S_, .f32⟩
  | 11 => ⟨S_, .i32⟩
  | 12 => ⟨S_, .i1⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S8192x8192, .f32⟩
  | 20 => ⟨S8192x8192, .i1⟩
  | 21 => ⟨S8192x8192, .i32⟩
  | 22 => ⟨S_, .i32⟩
  | 23 => ⟨S_, .i32⟩
  | 24 => ⟨S_, .f32⟩
  | 25 => ⟨S8192x8192, .f32⟩
  | 26 => ⟨S8192x8192, .i1⟩
  | 27 => ⟨S8192x8192, .i32⟩
  | 28 => ⟨S_, .i32⟩
  | 29 => ⟨S_, .i32⟩
  | 30 => ⟨S_, .f32⟩
  | 31 => ⟨S8192x8192, .f32⟩
  | 32 => ⟨S8192x8192, .i1⟩
  | 33 => ⟨S8192x8192, .i32⟩
  | 34 => ⟨S_, .i32⟩
  | 35 => ⟨S_, .i32⟩
  | 36 => ⟨S_, .f32⟩
  | 37 => ⟨S8192x8192, .f32⟩
  | 38 => ⟨S8192x8192, .i1⟩
  | 39 => ⟨S8192x8192, .i32⟩
  | 40 => ⟨S_, .i32⟩
  | 41 => ⟨S_, .i32⟩
  | 42 => ⟨S_, .f32⟩
  | 43 => ⟨S_, .f32⟩
  | 44 => ⟨S_, .f32⟩
  | 45 => ⟨S_, .i32⟩
  | 46 => ⟨S_, .f32⟩
  | 47 => ⟨S_, .f32⟩
  | 48 => ⟨S_, .f32⟩
  | 49 => ⟨S_, .f32⟩
  | 50 => ⟨S_, .i32⟩
  | 51 => ⟨S_, .i1⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .i32⟩
  | 62 => ⟨S_, .f32⟩
  | 63 => ⟨S_, .f32⟩
  | 64 => ⟨S_, .f32⟩
  | 65 => ⟨S_, .f32⟩
  | 66 => ⟨S_, .i32⟩
  | 67 => ⟨S_, .i1⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .i32⟩
  | 77 => ⟨S_, .f32⟩
  | 78 => ⟨S_, .f32⟩
  | 79 => ⟨S_, .f32⟩
  | 80 => ⟨S_, .f32⟩
  | 81 => ⟨S_, .i32⟩
  | 82 => ⟨S_, .i1⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192x8192, .f32⟩
  | 92 => ⟨S8192x8192, .f32⟩
  | 93 => ⟨S_, .f32⟩
  | 94 => ⟨S8192x8192, .f32⟩
  | 95 => ⟨S8192x8192, .f32⟩
  | 96 => ⟨S8192x8192, .f32⟩
  | 97 => ⟨S_, .f32⟩
  | 98 => ⟨S8192x8192, .f32⟩
  | 99 => ⟨S8192x8192, .i1⟩
  | 100 => ⟨S8192x8192, .f32⟩
  | 101 => ⟨S8192x8192, .f32⟩
  | 102 => ⟨S_, .f32⟩
  | 103 => ⟨S8192x8192, .f32⟩
  | 104 => ⟨S8192x8192, .f32⟩
  | 105 => ⟨S_, .f32⟩
  | 106 => ⟨S_, .f32⟩
  | 107 => ⟨S8192x8192, .f32⟩
  | 108 => ⟨S8192x8192, .f32⟩
  | 109 => ⟨S8192x8192, .f32⟩
  | 110 => ⟨S8192x8192, .f32⟩
  | 111 => ⟨S_, .i32⟩
  | 112 => ⟨S_, .i32⟩
  | 113 => ⟨S_, .f32⟩
  | 114 => ⟨S8192x8192, .f32⟩
  | 115 => ⟨S8192x8192, .f32⟩
  | 116 => ⟨S_, .f32⟩
  | 117 => ⟨S8192x8192, .f32⟩
  | 118 => ⟨S8192x8192, .f32⟩
  | 119 => ⟨S8192x8192, .f32⟩
  | 120 => ⟨S8192x8192, .f32⟩
  | 121 => ⟨S8192x8192, .f32⟩
  | 122 => ⟨S8192x8192, .f32⟩
  | 123 => ⟨S_, .f32⟩
  | 124 => ⟨S8192x8192, .f32⟩
  | 125 => ⟨S8192x8192, .f32⟩
  | 126 => ⟨S_, .f32⟩
  | 127 => ⟨S8192x8192, .f32⟩
  | _ => ⟨S8192x8192, .f32⟩

abbrev hbmTy0_2 (i : Nat) : BufTy := match i % 128 with
  | 0 => ⟨S8192x8192, .f32⟩
  | 1 => ⟨S8192x8192, .f32⟩
  | 2 => ⟨S_, .f32⟩
  | 3 => ⟨S8192x8192, .f32⟩
  | 4 => ⟨S8192x8192, .f32⟩
  | 5 => ⟨S_, .f32⟩
  | 6 => ⟨S_, .f32⟩
  | 7 => ⟨S_, .f32⟩
  | 8 => ⟨S8192x8192, .f32⟩
  | 9 => ⟨S8192x8192, .f32⟩
  | 10 => ⟨S_, .f32⟩
  | 11 => ⟨S8192x8192, .f32⟩
  | 12 => ⟨S8192x8192, .f32⟩
  | 13 => ⟨S8192x8192, .f32⟩
  | 14 => ⟨S_, .f32⟩
  | 15 => ⟨S8192x8192, .f32⟩
  | 16 => ⟨S8192x8192, .f32⟩
  | 17 => ⟨S8192x8192, .f32⟩
  | 18 => ⟨S_, .f32⟩
  | 19 => ⟨S8192x8192, .f32⟩
  | 20 => ⟨S8192x8192, .f32⟩
  | 21 => ⟨S_, .f32⟩
  | 22 => ⟨S_, .f32⟩
  | 23 => ⟨S_, .f32⟩
  | 24 => ⟨S8192x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S_, .f32⟩
  | 31 => ⟨S8192x8192, .f32⟩
  | 32 => ⟨S8192x8192, .i1⟩
  | 33 => ⟨S8192x8192, .f32⟩
  | 34 => ⟨S8192x8192, .f32⟩
  | 35 => ⟨S_, .f32⟩
  | 36 => ⟨S8192x8192, .f32⟩
  | 37 => ⟨S8192x8192, .f32⟩
  | 38 => ⟨S_, .f32⟩
  | 39 => ⟨S_, .f32⟩
  | 40 => ⟨S8192x8192, .f32⟩
  | 41 => ⟨S8192x8192, .f32⟩
  | 42 => ⟨S8192x8192, .f32⟩
  | 43 => ⟨S8192x8192, .f32⟩
  | 44 => ⟨S_, .i32⟩
  | 45 => ⟨S_, .i32⟩
  | 46 => ⟨S_, .f32⟩
  | 47 => ⟨S8192x8192, .f32⟩
  | 48 => ⟨S8192x8192, .f32⟩
  | 49 => ⟨S_, .f32⟩
  | 50 => ⟨S8192x8192, .f32⟩
  | 51 => ⟨S8192x8192, .f32⟩
  | 52 => ⟨S8192x8192, .f32⟩
  | 53 => ⟨S8192x8192, .f32⟩
  | 54 => ⟨S8192x8192, .f32⟩
  | 55 => ⟨S8192x8192, .f32⟩
  | 56 => ⟨S_, .f32⟩
  | 57 => ⟨S8192x8192, .f32⟩
  | 58 => ⟨S8192x8192, .f32⟩
  | 59 => ⟨S_, .f32⟩
  | 60 => ⟨S8192x8192, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | 66 => ⟨S_, .f32⟩
  | 67 => ⟨S_, .f32⟩
  | 68 => ⟨S_, .f32⟩
  | 69 => ⟨S8192x8192, .f32⟩
  | 70 => ⟨S8192x8192, .f32⟩
  | 71 => ⟨S_, .f32⟩
  | 72 => ⟨S8192x8192, .f32⟩
  | 73 => ⟨S8192x8192, .f32⟩
  | 74 => ⟨S8192x8192, .f32⟩
  | 75 => ⟨S_, .f32⟩
  | 76 => ⟨S8192x8192, .f32⟩
  | 77 => ⟨S8192x8192, .f32⟩
  | 78 => ⟨S8192x8192, .f32⟩
  | 79 => ⟨S_, .f32⟩
  | 80 => ⟨S8192x8192, .f32⟩
  | 81 => ⟨S8192x8192, .f32⟩
  | 82 => ⟨S_, .f32⟩
  | 83 => ⟨S_, .f32⟩
  | 84 => ⟨S_, .f32⟩
  | 85 => ⟨S8192x8192, .f32⟩
  | 86 => ⟨S8192x8192, .f32⟩
  | 87 => ⟨S_, .f32⟩
  | 88 => ⟨S8192x8192, .f32⟩
  | 89 => ⟨S8192x8192, .f32⟩
  | 90 => ⟨S8192x8192, .f32⟩
  | 91 => ⟨S_, .f32⟩
  | 92 => ⟨S8192x8192, .f32⟩
  | 93 => ⟨S8192x8192, .i1⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S_, .f32⟩
  | 100 => ⟨S_, .f32⟩
  | 101 => ⟨S8192x8192, .f32⟩
  | 102 => ⟨S8192x8192, .f32⟩
  | 103 => ⟨S8192x8192, .f32⟩
  | 104 => ⟨S8192x8192, .f32⟩
  | 105 => ⟨S_, .i32⟩
  | 106 => ⟨S_, .i32⟩
  | 107 => ⟨S_, .f32⟩
  | 108 => ⟨S8192x8192, .f32⟩
  | 109 => ⟨S8192x8192, .f32⟩
  | 110 => ⟨S_, .f32⟩
  | 111 => ⟨S8192x8192, .f32⟩
  | 112 => ⟨S8192x8192, .f32⟩
  | 113 => ⟨S8192x8192, .f32⟩
  | 114 => ⟨S8192x8192, .f32⟩
  | 115 => ⟨S8192x8192, .f32⟩
  | 116 => ⟨S8192x8192, .f32⟩
  | 117 => ⟨S_, .f32⟩
  | 118 => ⟨S8192x8192, .f32⟩
  | 119 => ⟨S8192x8192, .f32⟩
  | 120 => ⟨S_, .f32⟩
  | 121 => ⟨S8192x8192, .f32⟩
  | 122 => ⟨S8192x8192, .f32⟩
  | 123 => ⟨S8192x8192, .f32⟩
  | 124 => ⟨S_, .f32⟩
  | 125 => ⟨S8192x8192, .f32⟩
  | 126 => ⟨S8192x8192, .f32⟩
  | 127 => ⟨S_, .f32⟩
  | _ => ⟨S8192x8192, .f32⟩

abbrev hbmTy0_3 (i : Nat) : BufTy := match i % 128 with
  | 0 => ⟨S_, .f32⟩
  | 1 => ⟨S_, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S8192x8192, .f32⟩
  | 8 => ⟨S_, .f32⟩
  | 9 => ⟨S8192x8192, .f32⟩
  | 10 => ⟨S8192x8192, .f32⟩
  | 11 => ⟨S8192x8192, .f32⟩
  | 12 => ⟨S_, .f32⟩
  | 13 => ⟨S8192x8192, .f32⟩
  | 14 => ⟨S8192x8192, .f32⟩
  | 15 => ⟨S_, .f32⟩
  | 16 => ⟨S_, .f32⟩
  | 17 => ⟨S_, .f32⟩
  | 18 => ⟨S8192x8192, .f32⟩
  | 19 => ⟨S8192x8192, .f32⟩
  | 20 => ⟨S_, .f32⟩
  | 21 => ⟨S8192x8192, .f32⟩
  | 22 => ⟨S8192x8192, .f32⟩
  | 23 => ⟨S8192x8192, .f32⟩
  | 24 => ⟨S_, .f32⟩
  | 25 => ⟨S8192x8192, .f32⟩
  | 26 => ⟨S8192x8192, .i1⟩
  | 27 => ⟨S8192x8192, .f32⟩
  | 28 => ⟨S8192x8192, .f32⟩
  | 29 => ⟨S_, .f32⟩
  | 30 => ⟨S8192x8192, .f32⟩
  | 31 => ⟨S8192x8192, .f32⟩
  | 32 => ⟨S_, .f32⟩
  | 33 => ⟨S_, .f32⟩
  | 34 => ⟨S8192x8192, .f32⟩
  | 35 => ⟨S8192x8192, .f32⟩
  | 36 => ⟨S8192x8192, .f32⟩
  | 37 => ⟨S8192x8192, .f32⟩
  | 38 => ⟨S_, .i32⟩
  | 39 => ⟨S_, .i32⟩
  | 40 => ⟨S_, .f32⟩
  | 41 => ⟨S8192x8192, .f32⟩
  | 42 => ⟨S8192x8192, .f32⟩
  | 43 => ⟨S_, .f32⟩
  | 44 => ⟨S8192x8192, .f32⟩
  | 45 => ⟨S8192x8192, .f32⟩
  | 46 => ⟨S8192x8192, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S_, .f32⟩
  | 61 => ⟨S_, .f32⟩
  | 62 => ⟨S_, .f32⟩
  | 63 => ⟨S8192x8192, .f32⟩
  | 64 => ⟨S8192x8192, .f32⟩
  | 65 => ⟨S_, .f32⟩
  | 66 => ⟨S8192x8192, .f32⟩
  | 67 => ⟨S8192x8192, .f32⟩
  | 68 => ⟨S8192x8192, .f32⟩
  | 69 => ⟨S_, .f32⟩
  | 70 => ⟨S8192x8192, .f32⟩
  | 71 => ⟨S8192x8192, .f32⟩
  | 72 => ⟨S8192x8192, .f32⟩
  | 73 => ⟨S_, .f32⟩
  | 74 => ⟨S8192x8192, .f32⟩
  | 75 => ⟨S8192x8192, .f32⟩
  | 76 => ⟨S8192x8192, .f32⟩
  | 77 => ⟨S8192x8192, .i1⟩
  | 78 => ⟨S8192x8192, .f32⟩
  | 79 => ⟨S8192x8192, .i1⟩
  | 80 => ⟨S8192x8192, .f32⟩
  | 81 => ⟨S8192x8192, .i1⟩
  | 82 => ⟨S8192x8192, .f32⟩
  | 83 => ⟨S8192x8192, .f32⟩
  | 84 => ⟨S8192x8192, .f32⟩
  | _ => ⟨S8192x8192, .f32⟩

abbrev hbmTy (i : Nat) : BufTy := match i / 128 with
  | 0 => hbmTy0_0 i
  | 1 => hbmTy0_1 i
  | 2 => hbmTy0_2 i
  | 3 => hbmTy0_3 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_cst_12 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_13 : Ref sig .tc := ⟨.hbm, 51, rfl⟩
abbrev main_v34 : Ref sig .tc := ⟨.hbm, 52, rfl⟩
abbrev main_v35 : Ref sig .tc := ⟨.hbm, 53, rfl⟩
abbrev main_c_14 : Ref sig .tc := ⟨.hbm, 54, rfl⟩
abbrev main_v36 : Ref sig .tc := ⟨.hbm, 55, rfl⟩
abbrev main_cst_15 : Ref sig .tc := ⟨.hbm, 56, rfl⟩
abbrev main_v37 : Ref sig .tc := ⟨.hbm, 57, rfl⟩
abbrev main_cst_16 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_17 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_18 : Ref sig .tc := ⟨.hbm, 66, rfl⟩
abbrev main_v44 : Ref sig .tc := ⟨.hbm, 67, rfl⟩
abbrev main_v45 : Ref sig .tc := ⟨.hbm, 68, rfl⟩
abbrev main_c_19 : Ref sig .tc := ⟨.hbm, 69, rfl⟩
abbrev main_v46 : Ref sig .tc := ⟨.hbm, 70, rfl⟩
abbrev main_cst_20 : Ref sig .tc := ⟨.hbm, 71, rfl⟩
abbrev main_v47 : Ref sig .tc := ⟨.hbm, 72, rfl⟩
abbrev main_cst_21 : Ref sig .tc := ⟨.hbm, 73, rfl⟩
abbrev main_v48 : Ref sig .tc := ⟨.hbm, 74, rfl⟩
abbrev main_v49 : Ref sig .tc := ⟨.hbm, 75, rfl⟩
abbrev main_cst_22 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_23 : Ref sig .tc := ⟨.hbm, 80, rfl⟩
abbrev main_v53 : Ref sig .tc := ⟨.hbm, 81, rfl⟩
abbrev main_cst_24 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_25 : Ref sig .tc := ⟨.hbm, 86, rfl⟩
abbrev main_v57 : Ref sig .tc := ⟨.hbm, 87, rfl⟩
abbrev main_cst_26 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_27 : Ref sig .tc := ⟨.hbm, 92, rfl⟩
abbrev main_v61 : Ref sig .tc := ⟨.hbm, 93, rfl⟩
abbrev main_cst_28 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_29 : Ref sig .tc := ⟨.hbm, 98, rfl⟩
abbrev main_v65 : Ref sig .tc := ⟨.hbm, 99, rfl⟩
abbrev main_v66 : Ref sig .tc := ⟨.hbm, 100, rfl⟩
abbrev main_cst_30 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_31 : Ref sig .tc := ⟨.hbm, 105, rfl⟩
abbrev main_v70 : Ref sig .tc := ⟨.hbm, 106, rfl⟩
abbrev main_v71 : Ref sig .tc := ⟨.hbm, 107, rfl⟩
abbrev main_c_32 : Ref sig .tc := ⟨.hbm, 108, rfl⟩
abbrev main_v72 : Ref sig .tc := ⟨.hbm, 109, rfl⟩
abbrev main_cst_33 : Ref sig .tc := ⟨.hbm, 110, rfl⟩
abbrev main_v73 : Ref sig .tc := ⟨.hbm, 111, rfl⟩
abbrev main_cst_34 : Ref sig .tc := ⟨.hbm, 112, rfl⟩
abbrev main_v74 : Ref sig .tc := ⟨.hbm, 113, rfl⟩
abbrev main_cst_35 : Ref sig .tc := ⟨.hbm, 114, rfl⟩
abbrev main_v75 : Ref sig .tc := ⟨.hbm, 115, rfl⟩
abbrev main_v76 : Ref sig .tc := ⟨.hbm, 116, rfl⟩
abbrev main_cst_36 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_37 : Ref sig .tc := ⟨.hbm, 121, rfl⟩
abbrev main_v80 : Ref sig .tc := ⟨.hbm, 122, rfl⟩
abbrev main_v81 : Ref sig .tc := ⟨.hbm, 123, rfl⟩
abbrev main_c_38 : Ref sig .tc := ⟨.hbm, 124, rfl⟩
abbrev main_v82 : Ref sig .tc := ⟨.hbm, 125, rfl⟩
abbrev main_cst_39 : Ref sig .tc := ⟨.hbm, 126, rfl⟩
abbrev main_v83 : Ref sig .tc := ⟨.hbm, 127, rfl⟩
abbrev main_cst_40 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_41 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_42 : Ref sig .tc := ⟨.hbm, 136, rfl⟩
abbrev main_v90 : Ref sig .tc := ⟨.hbm, 137, rfl⟩
abbrev main_v91 : Ref sig .tc := ⟨.hbm, 138, rfl⟩
abbrev main_c_43 : Ref sig .tc := ⟨.hbm, 139, rfl⟩
abbrev main_v92 : Ref sig .tc := ⟨.hbm, 140, rfl⟩
abbrev main_cst_44 : Ref sig .tc := ⟨.hbm, 141, rfl⟩
abbrev main_v93 : Ref sig .tc := ⟨.hbm, 142, rfl⟩
abbrev main_cst_45 : Ref sig .tc := ⟨.hbm, 143, rfl⟩
abbrev main_v94 : Ref sig .tc := ⟨.hbm, 144, rfl⟩
abbrev main_v95 : Ref sig .tc := ⟨.hbm, 145, rfl⟩
abbrev main_cst_46 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_47 : Ref sig .tc := ⟨.hbm, 150, rfl⟩
abbrev main_v99 : Ref sig .tc := ⟨.hbm, 151, rfl⟩
abbrev main_cst_48 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_49 : Ref sig .tc := ⟨.hbm, 156, rfl⟩
abbrev main_v103 : Ref sig .tc := ⟨.hbm, 157, rfl⟩
abbrev main_cst_50 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_51 : Ref sig .tc := ⟨.hbm, 162, rfl⟩
abbrev main_v107 : Ref sig .tc := ⟨.hbm, 163, rfl⟩
abbrev main_cst_52 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_c_53 : Ref sig .tc := ⟨.hbm, 168, rfl⟩
abbrev main_v111 : Ref sig .tc := ⟨.hbm, 169, rfl⟩
abbrev main_v112 : Ref sig .tc := ⟨.hbm, 170, rfl⟩
abbrev main_cst_54 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_55 : Ref sig .tc := ⟨.hbm, 175, rfl⟩
abbrev main_v116 : Ref sig .tc := ⟨.hbm, 176, rfl⟩
abbrev main_v117 : Ref sig .tc := ⟨.hbm, 177, rfl⟩
abbrev main_c_56 : Ref sig .tc := ⟨.hbm, 178, rfl⟩
abbrev main_v118 : Ref sig .tc := ⟨.hbm, 179, rfl⟩
abbrev main_cst_57 : Ref sig .tc := ⟨.hbm, 180, rfl⟩
abbrev main_v119 : Ref sig .tc := ⟨.hbm, 181, rfl⟩
abbrev main_cst_58 : Ref sig .tc := ⟨.hbm, 182, rfl⟩
abbrev main_v120 : Ref sig .tc := ⟨.hbm, 183, rfl⟩
abbrev main_cst_59 : Ref sig .tc := ⟨.hbm, 184, rfl⟩
abbrev main_v121 : Ref sig .tc := ⟨.hbm, 185, rfl⟩
abbrev main_v122 : Ref sig .tc := ⟨.hbm, 186, rfl⟩
abbrev main_cst_60 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_61 : Ref sig .tc := ⟨.hbm, 191, rfl⟩
abbrev main_v126 : Ref sig .tc := ⟨.hbm, 192, rfl⟩
abbrev main_v127 : Ref sig .tc := ⟨.hbm, 193, rfl⟩
abbrev main_c_62 : Ref sig .tc := ⟨.hbm, 194, rfl⟩
abbrev main_v128 : Ref sig .tc := ⟨.hbm, 195, rfl⟩
abbrev main_cst_63 : Ref sig .tc := ⟨.hbm, 196, rfl⟩
abbrev main_v129 : Ref sig .tc := ⟨.hbm, 197, rfl⟩
abbrev main_cst_64 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_65 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_66 : Ref sig .tc := ⟨.hbm, 206, rfl⟩
abbrev main_v136 : Ref sig .tc := ⟨.hbm, 207, rfl⟩
abbrev main_v137 : Ref sig .tc := ⟨.hbm, 208, rfl⟩
abbrev main_c_67 : Ref sig .tc := ⟨.hbm, 209, rfl⟩
abbrev main_v138 : Ref sig .tc := ⟨.hbm, 210, rfl⟩
abbrev main_cst_68 : Ref sig .tc := ⟨.hbm, 211, rfl⟩
abbrev main_v139 : Ref sig .tc := ⟨.hbm, 212, rfl⟩
abbrev main_cst_69 : Ref sig .tc := ⟨.hbm, 213, rfl⟩
abbrev main_v140 : Ref sig .tc := ⟨.hbm, 214, rfl⟩
abbrev main_v141 : Ref sig .tc := ⟨.hbm, 215, rfl⟩
abbrev main_cst_70 : Ref sig .tc := ⟨.hbm, 216, rfl⟩
abbrev main_cst_71 : Ref sig .tc := ⟨.hbm, 217, rfl⟩
abbrev main_call9_v0 : Ref sig .tc := ⟨.hbm, 218, rfl⟩
abbrev main_call9_v1 : Ref sig .tc := ⟨.hbm, 219, rfl⟩
abbrev main_call9_v2 : Ref sig .tc := ⟨.hbm, 220, rfl⟩
abbrev main_call9_v3 : Ref sig .tc := ⟨.hbm, 221, rfl⟩
abbrev main_call9_v4 : Ref sig .tc := ⟨.hbm, 222, rfl⟩
abbrev main_v142 : Ref sig .tc := ⟨.hbm, 223, rfl⟩
abbrev main_v143 : Ref sig .tc := ⟨.hbm, 224, rfl⟩
abbrev main_cst_72 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_cst_73 : Ref sig .tc := ⟨.hbm, 230, rfl⟩
abbrev main_v148 : Ref sig .tc := ⟨.hbm, 231, rfl⟩
abbrev main_v149 : Ref sig .tc := ⟨.hbm, 232, rfl⟩
abbrev main_cst_74 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_75 : Ref sig .tc := ⟨.hbm, 239, rfl⟩
abbrev main_c_76 : Ref sig .tc := ⟨.hbm, 240, rfl⟩
abbrev main_call10_v0 : Ref sig .tc := ⟨.hbm, 241, rfl⟩
abbrev main_call10_v1 : Ref sig .tc := ⟨.hbm, 242, rfl⟩
abbrev main_call10_v2 : Ref sig .tc := ⟨.hbm, 243, rfl⟩
abbrev main_call10_v3 : Ref sig .tc := ⟨.hbm, 244, rfl⟩
abbrev main_call10_v4 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_77 : Ref sig .tc := ⟨.hbm, 251, rfl⟩
abbrev main_v160 : Ref sig .tc := ⟨.hbm, 252, rfl⟩
abbrev main_v161 : Ref sig .tc := ⟨.hbm, 253, rfl⟩
abbrev main_cst_78 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_cst_79 : Ref sig .tc := ⟨.hbm, 258, rfl⟩
abbrev main_v165 : Ref sig .tc := ⟨.hbm, 259, rfl⟩
abbrev main_v166 : Ref sig .tc := ⟨.hbm, 260, rfl⟩
abbrev main_cst_80 : Ref sig .tc := ⟨.hbm, 261, rfl⟩
abbrev main_cst_81 : Ref sig .tc := ⟨.hbm, 262, rfl⟩
abbrev main_call12_v0 : Ref sig .tc := ⟨.hbm, 263, rfl⟩
abbrev main_call12_v1 : Ref sig .tc := ⟨.hbm, 264, rfl⟩
abbrev main_call12_v2 : Ref sig .tc := ⟨.hbm, 265, rfl⟩
abbrev main_call12_v3 : Ref sig .tc := ⟨.hbm, 266, rfl⟩
abbrev main_call12_v4 : Ref sig .tc := ⟨.hbm, 267, rfl⟩
abbrev main_v167 : Ref sig .tc := ⟨.hbm, 268, rfl⟩
abbrev main_v168 : Ref sig .tc := ⟨.hbm, 269, rfl⟩
abbrev main_cst_82 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_cst_83 : Ref sig .tc := ⟨.hbm, 274, rfl⟩
abbrev main_v172 : Ref sig .tc := ⟨.hbm, 275, rfl⟩
abbrev main_v173 : Ref sig .tc := ⟨.hbm, 276, rfl⟩
abbrev main_cst_84 : Ref sig .tc := ⟨.hbm, 277, rfl⟩
abbrev main_cst_85 : Ref sig .tc := ⟨.hbm, 278, rfl⟩
abbrev main_call14_v0 : Ref sig .tc := ⟨.hbm, 279, rfl⟩
abbrev main_call14_v1 : Ref sig .tc := ⟨.hbm, 280, rfl⟩
abbrev main_call14_v2 : Ref sig .tc := ⟨.hbm, 281, rfl⟩
abbrev main_call14_v3 : Ref sig .tc := ⟨.hbm, 282, rfl⟩
abbrev main_call14_v4 : Ref sig .tc := ⟨.hbm, 283, rfl⟩
abbrev main_v174 : Ref sig .tc := ⟨.hbm, 284, rfl⟩
abbrev main_v175 : Ref sig .tc := ⟨.hbm, 285, rfl⟩
abbrev main_cst_86 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_cst_87 : Ref sig .tc := ⟨.hbm, 291, rfl⟩
abbrev main_v180 : Ref sig .tc := ⟨.hbm, 292, rfl⟩
abbrev main_v181 : Ref sig .tc := ⟨.hbm, 293, rfl⟩
abbrev main_cst_88 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_c_89 : Ref sig .tc := ⟨.hbm, 300, rfl⟩
abbrev main_c_90 : Ref sig .tc := ⟨.hbm, 301, rfl⟩
abbrev main_call15_v0 : Ref sig .tc := ⟨.hbm, 302, rfl⟩
abbrev main_call15_v1 : Ref sig .tc := ⟨.hbm, 303, rfl⟩
abbrev main_call15_v2 : Ref sig .tc := ⟨.hbm, 304, rfl⟩
abbrev main_call15_v3 : Ref sig .tc := ⟨.hbm, 305, rfl⟩
abbrev main_call15_v4 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_cst_91 : Ref sig .tc := ⟨.hbm, 312, rfl⟩
abbrev main_v192 : Ref sig .tc := ⟨.hbm, 313, rfl⟩
abbrev main_v193 : Ref sig .tc := ⟨.hbm, 314, rfl⟩
abbrev main_cst_92 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_93 : Ref sig .tc := ⟨.hbm, 319, rfl⟩
abbrev main_v197 : Ref sig .tc := ⟨.hbm, 320, rfl⟩
abbrev main_v198 : Ref sig .tc := ⟨.hbm, 321, rfl⟩
abbrev main_cst_94 : Ref sig .tc := ⟨.hbm, 322, rfl⟩
abbrev main_cst_95 : Ref sig .tc := ⟨.hbm, 323, rfl⟩
abbrev main_call17_v0 : Ref sig .tc := ⟨.hbm, 324, rfl⟩
abbrev main_call17_v1 : Ref sig .tc := ⟨.hbm, 325, rfl⟩
abbrev main_call17_v2 : Ref sig .tc := ⟨.hbm, 326, rfl⟩
abbrev main_call17_v3 : Ref sig .tc := ⟨.hbm, 327, rfl⟩
abbrev main_call17_v4 : Ref sig .tc := ⟨.hbm, 328, rfl⟩
abbrev main_v199 : Ref sig .tc := ⟨.hbm, 329, rfl⟩
abbrev main_v200 : Ref sig .tc := ⟨.hbm, 330, rfl⟩
abbrev main_cst_96 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_cst_97 : Ref sig .tc := ⟨.hbm, 335, rfl⟩
abbrev main_v204 : Ref sig .tc := ⟨.hbm, 336, rfl⟩
abbrev main_v205 : Ref sig .tc := ⟨.hbm, 337, rfl⟩
abbrev main_cst_98 : Ref sig .tc := ⟨.hbm, 338, rfl⟩
abbrev main_cst_99 : Ref sig .tc := ⟨.hbm, 339, rfl⟩
abbrev main_call19_v0 : Ref sig .tc := ⟨.hbm, 340, rfl⟩
abbrev main_call19_v1 : Ref sig .tc := ⟨.hbm, 341, rfl⟩
abbrev main_call19_v2 : Ref sig .tc := ⟨.hbm, 342, rfl⟩
abbrev main_call19_v3 : Ref sig .tc := ⟨.hbm, 343, rfl⟩
abbrev main_call19_v4 : Ref sig .tc := ⟨.hbm, 344, rfl⟩
abbrev main_v206 : Ref sig .tc := ⟨.hbm, 345, rfl⟩
abbrev main_v207 : Ref sig .tc := ⟨.hbm, 346, rfl⟩
abbrev main_cst_100 : Ref sig .tc := ⟨.hbm, 347, rfl⟩
abbrev main_v208 : Ref sig .tc := ⟨.hbm, 348, rfl⟩
abbrev main_v209 : Ref sig .tc := ⟨.hbm, 349, rfl⟩
abbrev main_v210 : Ref sig .tc := ⟨.hbm, 350, rfl⟩
abbrev main_v211 : Ref sig .tc := ⟨.hbm, 351, rfl⟩
abbrev main_cst_101 : Ref sig .tc := ⟨.hbm, 352, rfl⟩
abbrev main_v212 : Ref sig .tc := ⟨.hbm, 353, rfl⟩
abbrev main_v213 : Ref sig .tc := ⟨.hbm, 354, rfl⟩
abbrev main_cst_102 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_c_103 : Ref sig .tc := ⟨.hbm, 361, rfl⟩
abbrev main_c_104 : Ref sig .tc := ⟨.hbm, 362, rfl⟩
abbrev main_call20_v0 : Ref sig .tc := ⟨.hbm, 363, rfl⟩
abbrev main_call20_v1 : Ref sig .tc := ⟨.hbm, 364, rfl⟩
abbrev main_call20_v2 : Ref sig .tc := ⟨.hbm, 365, rfl⟩
abbrev main_call20_v3 : Ref sig .tc := ⟨.hbm, 366, rfl⟩
abbrev main_call20_v4 : Ref sig .tc := ⟨.hbm, 367, rfl⟩
abbrev main_v219 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_cst_105 : Ref sig .tc := ⟨.hbm, 373, rfl⟩
abbrev main_v224 : Ref sig .tc := ⟨.hbm, 374, rfl⟩
abbrev main_v225 : Ref sig .tc := ⟨.hbm, 375, rfl⟩
abbrev main_cst_106 : Ref sig .tc := ⟨.hbm, 376, rfl⟩
abbrev main_v226 : Ref sig .tc := ⟨.hbm, 377, rfl⟩
abbrev main_v227 : Ref sig .tc := ⟨.hbm, 378, rfl⟩
abbrev main_v228 : Ref sig .tc := ⟨.hbm, 379, rfl⟩
abbrev main_cst_107 : Ref sig .tc := ⟨.hbm, 380, rfl⟩
abbrev main_v229 : Ref sig .tc := ⟨.hbm, 381, rfl⟩
abbrev main_v230 : Ref sig .tc := ⟨.hbm, 382, rfl⟩
abbrev main_cst_108 : Ref sig .tc := ⟨.hbm, 383, rfl⟩
abbrev main_cst_109 : Ref sig .tc := ⟨.hbm, 384, rfl⟩
abbrev main_call22_v0 : Ref sig .tc := ⟨.hbm, 385, rfl⟩
abbrev main_call22_v1 : Ref sig .tc := ⟨.hbm, 386, rfl⟩
abbrev main_call22_v2 : Ref sig .tc := ⟨.hbm, 387, rfl⟩
abbrev main_call22_v3 : Ref sig .tc := ⟨.hbm, 388, rfl⟩
abbrev main_call22_v4 : Ref sig .tc := ⟨.hbm, 389, rfl⟩
abbrev main_v231 : Ref sig .tc := ⟨.hbm, 390, rfl⟩
abbrev main_v232 : Ref sig .tc := ⟨.hbm, 391, rfl⟩
abbrev main_cst_110 : Ref sig .tc := ⟨.hbm, 392, rfl⟩
abbrev main_v233 : Ref sig .tc := ⟨.hbm, 393, rfl⟩
abbrev main_v234 : Ref sig .tc := ⟨.hbm, 394, rfl⟩
abbrev main_v235 : Ref sig .tc := ⟨.hbm, 395, rfl⟩
abbrev main_cst_111 : Ref sig .tc := ⟨.hbm, 396, rfl⟩
abbrev main_v236 : Ref sig .tc := ⟨.hbm, 397, rfl⟩
abbrev main_v237 : Ref sig .tc := ⟨.hbm, 398, rfl⟩
abbrev main_cst_112 : Ref sig .tc := ⟨.hbm, 399, rfl⟩
abbrev main_cst_113 : Ref sig .tc := ⟨.hbm, 400, rfl⟩
abbrev main_call24_v0 : Ref sig .tc := ⟨.hbm, 401, rfl⟩
abbrev main_call24_v1 : Ref sig .tc := ⟨.hbm, 402, rfl⟩
abbrev main_call24_v2 : Ref sig .tc := ⟨.hbm, 403, rfl⟩
abbrev main_call24_v3 : Ref sig .tc := ⟨.hbm, 404, rfl⟩
abbrev main_call24_v4 : Ref sig .tc := ⟨.hbm, 405, rfl⟩
abbrev main_v238 : Ref sig .tc := ⟨.hbm, 406, rfl⟩
abbrev main_v239 : Ref sig .tc := ⟨.hbm, 407, rfl⟩
abbrev main_cst_114 : Ref sig .tc := ⟨.hbm, 408, rfl⟩
abbrev main_v240 : Ref sig .tc := ⟨.hbm, 409, rfl⟩
abbrev main_v241 : Ref sig .tc := ⟨.hbm, 410, rfl⟩
abbrev main_v242 : Ref sig .tc := ⟨.hbm, 411, rfl⟩
abbrev main_v243 : Ref sig .tc := ⟨.hbm, 412, rfl⟩
abbrev main_cst_115 : Ref sig .tc := ⟨.hbm, 413, rfl⟩
abbrev main_v244 : Ref sig .tc := ⟨.hbm, 414, rfl⟩
abbrev main_v245 : Ref sig .tc := ⟨.hbm, 415, rfl⟩
abbrev main_cst_116 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_c_117 : Ref sig .tc := ⟨.hbm, 422, rfl⟩
abbrev main_c_118 : Ref sig .tc := ⟨.hbm, 423, rfl⟩
abbrev main_call25_v0 : Ref sig .tc := ⟨.hbm, 424, rfl⟩
abbrev main_call25_v1 : Ref sig .tc := ⟨.hbm, 425, rfl⟩
abbrev main_call25_v2 : Ref sig .tc := ⟨.hbm, 426, rfl⟩
abbrev main_call25_v3 : Ref sig .tc := ⟨.hbm, 427, rfl⟩
abbrev main_call25_v4 : Ref sig .tc := ⟨.hbm, 428, rfl⟩
abbrev main_v251 : Ref sig .tc := ⟨.hbm, 429, rfl⟩
abbrev main_v252 : Ref sig .tc := ⟨.hbm, 430, rfl⟩
abbrev main_v253 : Ref sig .tc := ⟨.hbm, 431, rfl⟩
abbrev main_v254 : Ref sig .tc := ⟨.hbm, 432, rfl⟩
abbrev main_v255 : Ref sig .tc := ⟨.hbm, 433, rfl⟩
abbrev main_cst_119 : Ref sig .tc := ⟨.hbm, 434, rfl⟩
abbrev main_v256 : Ref sig .tc := ⟨.hbm, 435, rfl⟩
abbrev main_v257 : Ref sig .tc := ⟨.hbm, 436, rfl⟩
abbrev main_cst_120 : Ref sig .tc := ⟨.hbm, 437, rfl⟩
abbrev main_v258 : Ref sig .tc := ⟨.hbm, 438, rfl⟩
abbrev main_v259 : Ref sig .tc := ⟨.hbm, 439, rfl⟩
abbrev main_v260 : Ref sig .tc := ⟨.hbm, 440, rfl⟩
abbrev main_cst_121 : Ref sig .tc := ⟨.hbm, 441, rfl⟩
abbrev main_v261 : Ref sig .tc := ⟨.hbm, 442, rfl⟩
abbrev main_v262 : Ref sig .tc := ⟨.hbm, 443, rfl⟩
abbrev main_cst_122 : Ref sig .tc := ⟨.hbm, 444, rfl⟩
abbrev main_cst_123 : Ref sig .tc := ⟨.hbm, 445, rfl⟩
abbrev main_call27_v0 : Ref sig .tc := ⟨.hbm, 446, rfl⟩
abbrev main_call27_v1 : Ref sig .tc := ⟨.hbm, 447, rfl⟩
abbrev main_call27_v2 : Ref sig .tc := ⟨.hbm, 448, rfl⟩
abbrev main_call27_v3 : Ref sig .tc := ⟨.hbm, 449, rfl⟩
abbrev main_call27_v4 : Ref sig .tc := ⟨.hbm, 450, rfl⟩
abbrev main_v263 : Ref sig .tc := ⟨.hbm, 451, rfl⟩
abbrev main_v264 : Ref sig .tc := ⟨.hbm, 452, rfl⟩
abbrev main_cst_124 : Ref sig .tc := ⟨.hbm, 453, rfl⟩
abbrev main_v265 : Ref sig .tc := ⟨.hbm, 454, rfl⟩
abbrev main_v266 : Ref sig .tc := ⟨.hbm, 455, rfl⟩
abbrev main_v267 : Ref sig .tc := ⟨.hbm, 456, rfl⟩
abbrev main_cst_125 : Ref sig .tc := ⟨.hbm, 457, rfl⟩
abbrev main_v268 : Ref sig .tc := ⟨.hbm, 458, rfl⟩
abbrev main_v269 : Ref sig .tc := ⟨.hbm, 459, rfl⟩
abbrev main_v270 : Ref sig .tc := ⟨.hbm, 460, rfl⟩
abbrev main_v271 : Ref sig .tc := ⟨.hbm, 461, rfl⟩
abbrev main_v272 : Ref sig .tc := ⟨.hbm, 462, rfl⟩
abbrev main_v273 : Ref sig .tc := ⟨.hbm, 463, rfl⟩
abbrev main_v274 : Ref sig .tc := ⟨.hbm, 464, rfl⟩
abbrev main_v275 : Ref sig .tc := ⟨.hbm, 465, rfl⟩
abbrev main_v276 : Ref sig .tc := ⟨.hbm, 466, rfl⟩
abbrev main_v277 : Ref sig .tc := ⟨.hbm, 467, rfl⟩
abbrev main_v278 : Ref sig .tc := ⟨.hbm, 468, rfl⟩

abbrev nD : Nat := 1
abbrev τ : Topo := Topo.v7x

variable {F : FTy → Type} [FloatOps F]
-- ==== ExactIdeal.lean ====
abbrev S8192x8192 : Shape := ⟨2, ![8192, 8192]⟩
abbrev S67108864 : Shape := ⟨1, ![67108864]⟩
abbrev S_ : Shape := ⟨0, ![]⟩
abbrev S1 : Shape := ⟨1, ![1]⟩

abbrev nBuf : Space → Nat
  | .hbm => 388
  | .vmem => 0
  | .smem => 0
  | _ => 0

abbrev hbmTy0_0 (i : Nat) : BufTy := match i % 128 with
  | 0 => ⟨S8192x8192, .f32⟩
  | 1 => ⟨S8192x8192, .f32⟩
  | 2 => ⟨S8192x8192, .f32⟩
  | 3 => ⟨S67108864, .f32⟩
  | 4 => ⟨S_, .f32⟩
  | 5 => ⟨S67108864, .i1⟩
  | 6 => ⟨S_, .i1⟩
  | 7 => ⟨S_, .i1⟩
  | 8 => ⟨S1, .i1⟩
  | 9 => ⟨S_, .f32⟩
  | 10 => ⟨S_, .f32⟩
  | 11 => ⟨S67108864, .i1⟩
  | 12 => ⟨S67108864, .f32⟩
  | 13 => ⟨S67108864, .f32⟩
  | 14 => ⟨S67108864, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .i32⟩
  | 35 => ⟨S_, .i32⟩
  | 36 => ⟨S1, .i32⟩
  | 37 => ⟨S_, .f32⟩
  | 38 => ⟨S1, .i32⟩
  | 39 => ⟨S_, .f32⟩
  | 40 => ⟨S_, .f32⟩
  | 41 => ⟨S_, .f32⟩
  | 42 => ⟨S_, .f32⟩
  | 43 => ⟨S_, .f32⟩
  | 44 => ⟨S67108864, .i1⟩
  | 45 => ⟨S_, .i1⟩
  | 46 => ⟨S_, .i1⟩
  | 47 => ⟨S1, .i1⟩
  | 48 => ⟨S_, .f32⟩
  | 49 => ⟨S_, .f32⟩
  | 50 => ⟨S67108864, .i1⟩
  | 51 => ⟨S67108864, .f32⟩
  | 52 => ⟨S67108864, .f32⟩
  | 53 => ⟨S67108864, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i32⟩
  | 74 => ⟨S_, .i32⟩
  | 75 => ⟨S1, .i32⟩
  | 76 => ⟨S_, .f32⟩
  | 77 => ⟨S1, .i32⟩
  | 78 => ⟨S_, .f32⟩
  | 79 => ⟨S_, .f32⟩
  | 80 => ⟨S_, .f32⟩
  | 81 => ⟨S_, .f32⟩
  | 82 => ⟨S_, .f32⟩
  | 83 => ⟨S67108864, .i1⟩
  | 84 => ⟨S_, .i1⟩
  | 85 => ⟨S_, .i1⟩
  | 86 => ⟨S1, .i1⟩
  | 87 => ⟨S_, .f32⟩
  | 88 => ⟨S_, .f32⟩
  | 89 => ⟨S67108864, .i1⟩
  | 90 => ⟨S67108864, .f32⟩
  | 91 => ⟨S67108864, .f32⟩
  | 92 => ⟨S67108864, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .i32⟩
  | 113 => ⟨S_, .i32⟩
  | 114 => ⟨S1, .i32⟩
  | 115 => ⟨S_, .f32⟩
  | 116 => ⟨S1, .i32⟩
  | 117 => ⟨S_, .f32⟩
  | 118 => ⟨S_, .f32⟩
  | 119 => ⟨S_, .f32⟩
  | 120 => ⟨S_, .f32⟩
  | 121 => ⟨S8192x8192, .f32⟩
  | 122 => ⟨S8192x8192, .i1⟩
  | 123 => ⟨S8192x8192, .i32⟩
  | 124 => ⟨S8192x8192, .f32⟩
  | 125 => ⟨S8192x8192, .i1⟩
  | 126 => ⟨S8192x8192, .i32⟩
  | 127 => ⟨S8192x8192, .i32⟩
  | _ => ⟨S8192x8192, .f32⟩

abbrev hbmTy0_1 (i : Nat) : BufTy := match i % 128 with
  | 0 => ⟨S8192x8192, .f32⟩
  | 1 => ⟨S8192x8192, .i1⟩
  | 2 => ⟨S8192x8192, .i32⟩
  | 3 => ⟨S8192x8192, .i32⟩
  | 4 => ⟨S_, .f32⟩
  | 5 => ⟨S_, .f32⟩
  | 6 => ⟨S_, .f32⟩
  | 7 => ⟨S8192x8192, .f32⟩
  | 8 => ⟨S8192x8192, .f32⟩
  | 9 => ⟨S_, .f32⟩
  | 10 => ⟨S8192x8192, .f32⟩
  | 11 => ⟨S8192x8192, .f32⟩
  | 12 => ⟨S8192x8192, .f32⟩
  | 13 => ⟨S_, .f32⟩
  | 14 => ⟨S8192x8192, .f32⟩
  | 15 => ⟨S8192x8192, .i1⟩
  | 16 => ⟨S8192x8192, .f32⟩
  | 17 => ⟨S8192x8192, .f32⟩
  | 18 => ⟨S_, .f32⟩
  | 19 => ⟨S8192x8192, .f32⟩
  | 20 => ⟨S8192x8192, .f32⟩
  | 21 => ⟨S_, .f32⟩
  | 22 => ⟨S_, .f32⟩
  | 23 => ⟨S8192x8192, .f32⟩
  | 24 => ⟨S8192x8192, .f32⟩
  | 25 => ⟨S8192x8192, .f32⟩
  | 26 => ⟨S8192x8192, .f32⟩
  | 27 => ⟨S_, .i32⟩
  | 28 => ⟨S_, .i32⟩
  | 29 => ⟨S_, .f32⟩
  | 30 => ⟨S8192x8192, .f32⟩
  | 31 => ⟨S8192x8192, .f32⟩
  | 32 => ⟨S_, .f32⟩
  | 33 => ⟨S8192x8192, .f32⟩
  | 34 => ⟨S8192x8192, .f32⟩
  | 35 => ⟨S8192x8192, .f32⟩
  | 36 => ⟨S8192x8192, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S_, .f32⟩
  | 43 => ⟨S8192x8192, .f32⟩
  | 44 => ⟨S8192x8192, .f32⟩
  | 45 => ⟨S8192x8192, .f32⟩
  | 46 => ⟨S_, .f32⟩
  | 47 => ⟨S8192x8192, .f32⟩
  | 48 => ⟨S8192x8192, .f32⟩
  | 49 => ⟨S_, .f32⟩
  | 50 => ⟨S_, .f32⟩
  | 51 => ⟨S_, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S8192x8192, .f32⟩
  | 58 => ⟨S_, .f32⟩
  | 59 => ⟨S8192x8192, .f32⟩
  | 60 => ⟨S8192x8192, .f32⟩
  | 61 => ⟨S8192x8192, .f32⟩
  | 62 => ⟨S_, .f32⟩
  | 63 => ⟨S8192x8192, .f32⟩
  | 64 => ⟨S8192x8192, .f32⟩
  | 65 => ⟨S_, .f32⟩
  | 66 => ⟨S_, .f32⟩
  | 67 => ⟨S_, .f32⟩
  | 68 => ⟨S8192x8192, .f32⟩
  | 69 => ⟨S8192x8192, .f32⟩
  | 70 => ⟨S_, .f32⟩
  | 71 => ⟨S8192x8192, .f32⟩
  | 72 => ⟨S8192x8192, .f32⟩
  | 73 => ⟨S8192x8192, .f32⟩
  | 74 => ⟨S_, .f32⟩
  | 75 => ⟨S8192x8192, .f32⟩
  | 76 => ⟨S8192x8192, .i1⟩
  | 77 => ⟨S8192x8192, .f32⟩
  | 78 => ⟨S8192x8192, .f32⟩
  | 79 => ⟨S_, .f32⟩
  | 80 => ⟨S8192x8192, .f32⟩
  | 81 => ⟨S8192x8192, .f32⟩
  | 82 => ⟨S_, .f32⟩
  | 83 => ⟨S_, .f32⟩
  | 84 => ⟨S8192x8192, .f32⟩
  | 85 => ⟨S8192x8192, .f32⟩
  | 86 => ⟨S8192x8192, .f32⟩
  | 87 => ⟨S8192x8192, .f32⟩
  | 88 => ⟨S_, .i32⟩
  | 89 => ⟨S_, .i32⟩
  | 90 => ⟨S_, .f32⟩
  | 91 => ⟨S8192x8192, .f32⟩
  | 92 => ⟨S8192x8192, .f32⟩
  | 93 => ⟨S_, .f32⟩
  | 94 => ⟨S8192x8192, .f32⟩
  | 95 => ⟨S8192x8192, .f32⟩
  | 96 => ⟨S8192x8192, .f32⟩
  | 97 => ⟨S8192x8192, .f32⟩
  | 98 => ⟨S8192x8192, .f32⟩
  | 99 => ⟨S8192x8192, .f32⟩
  | 100 => ⟨S_, .f32⟩
  | 101 => ⟨S8192x8192, .f32⟩
  | 102 => ⟨S8192x8192, .f32⟩
  | 103 => ⟨S_, .f32⟩
  | 104 => ⟨S8192x8192, .f32⟩
  | 105 => ⟨S8192x8192, .f32⟩
  | 106 => ⟨S8192x8192, .f32⟩
  | 107 => ⟨S_, .f32⟩
  | 108 => ⟨S8192x8192, .f32⟩
  | 109 => ⟨S8192x8192, .f32⟩
  | 110 => ⟨S_, .f32⟩
  | 111 => ⟨S_, .f32⟩
  | 112 => ⟨S_, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | 118 => ⟨S8192x8192, .f32⟩
  | 119 => ⟨S_, .f32⟩
  | 120 => ⟨S8192x8192, .f32⟩
  | 121 => ⟨S8192x8192, .f32⟩
  | 122 => ⟨S8192x8192, .f32⟩
  | 123 => ⟨S_, .f32⟩
  | 124 => ⟨S8192x8192, .f32⟩
  | 125 => ⟨S8192x8192, .f32⟩
  | 126 => ⟨S_, .f32⟩
  | 127 => ⟨S_, .f32⟩
  | _ => ⟨S8192x8192, .f32⟩

abbrev hbmTy0_2 (i : Nat) : BufTy := match i % 128 with
  | 0 => ⟨S_, .f32⟩
  | 1 => ⟨S8192x8192, .f32⟩
  | 2 => ⟨S8192x8192, .f32⟩
  | 3 => ⟨S_, .f32⟩
  | 4 => ⟨S8192x8192, .f32⟩
  | 5 => ⟨S8192x8192, .f32⟩
  | 6 => ⟨S8192x8192, .f32⟩
  | 7 => ⟨S_, .f32⟩
  | 8 => ⟨S8192x8192, .f32⟩
  | 9 => ⟨S8192x8192, .i1⟩
  | 10 => ⟨S8192x8192, .f32⟩
  | 11 => ⟨S8192x8192, .f32⟩
  | 12 => ⟨S_, .f32⟩
  | 13 => ⟨S8192x8192, .f32⟩
  | 14 => ⟨S8192x8192, .f32⟩
  | 15 => ⟨S_, .f32⟩
  | 16 => ⟨S_, .f32⟩
  | 17 => ⟨S8192x8192, .f32⟩
  | 18 => ⟨S8192x8192, .f32⟩
  | 19 => ⟨S8192x8192, .f32⟩
  | 20 => ⟨S8192x8192, .f32⟩
  | 21 => ⟨S_, .i32⟩
  | 22 => ⟨S_, .i32⟩
  | 23 => ⟨S_, .f32⟩
  | 24 => ⟨S8192x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S8192x8192, .f32⟩
  | 31 => ⟨S8192x8192, .f32⟩
  | 32 => ⟨S8192x8192, .f32⟩
  | 33 => ⟨S_, .f32⟩
  | 34 => ⟨S8192x8192, .f32⟩
  | 35 => ⟨S8192x8192, .f32⟩
  | 36 => ⟨S_, .f32⟩
  | 37 => ⟨S8192x8192, .f32⟩
  | 38 => ⟨S8192x8192, .f32⟩
  | 39 => ⟨S8192x8192, .f32⟩
  | 40 => ⟨S_, .f32⟩
  | 41 => ⟨S8192x8192, .f32⟩
  | 42 => ⟨S8192x8192, .f32⟩
  | 43 => ⟨S_, .f32⟩
  | 44 => ⟨S_, .f32⟩
  | 45 => ⟨S_, .f32⟩
  | 46 => ⟨S8192x8192, .f32⟩
  | 47 => ⟨S8192x8192, .f32⟩
  | 48 => ⟨S_, .f32⟩
  | 49 => ⟨S8192x8192, .f32⟩
  | 50 => ⟨S8192x8192, .f32⟩
  | 51 => ⟨S8192x8192, .f32⟩
  | 52 => ⟨S_, .f32⟩
  | 53 => ⟨S8192x8192, .f32⟩
  | 54 => ⟨S8192x8192, .f32⟩
  | 55 => ⟨S8192x8192, .f32⟩
  | 56 => ⟨S_, .f32⟩
  | 57 => ⟨S8192x8192, .f32⟩
  | 58 => ⟨S8192x8192, .f32⟩
  | 59 => ⟨S_, .f32⟩
  | 60 => ⟨S_, .f32⟩
  | 61 => ⟨S_, .f32⟩
  | 62 => ⟨S8192x8192, .f32⟩
  | 63 => ⟨S8192x8192, .f32⟩
  | 64 => ⟨S_, .f32⟩
  | 65 => ⟨S8192x8192, .f32⟩
  | 66 => ⟨S8192x8192, .f32⟩
  | 67 => ⟨S8192x8192, .f32⟩
  | 68 => ⟨S_, .f32⟩
  | 69 => ⟨S8192x8192, .f32⟩
  | 70 => ⟨S8192x8192, .i1⟩
  | 71 => ⟨S8192x8192, .f32⟩
  | 72 => ⟨S8192x8192, .f32⟩
  | 73 => ⟨S_, .f32⟩
  | 74 => ⟨S8192x8192, .f32⟩
  | 75 => ⟨S8192x8192, .f32⟩
  | 76 => ⟨S_, .f32⟩
  | 77 => ⟨S_, .f32⟩
  | 78 => ⟨S8192x8192, .f32⟩
  | 79 => ⟨S8192x8192, .f32⟩
  | 80 => ⟨S8192x8192, .f32⟩
  | 81 => ⟨S8192x8192, .f32⟩
  | 82 => ⟨S_, .i32⟩
  | 83 => ⟨S_, .i32⟩
  | 84 => ⟨S_, .f32⟩
  | 85 => ⟨S8192x8192, .f32⟩
  | 86 => ⟨S8192x8192, .f32⟩
  | 87 => ⟨S_, .f32⟩
  | 88 => ⟨S8192x8192, .f32⟩
  | 89 => ⟨S8192x8192, .f32⟩
  | 90 => ⟨S8192x8192, .f32⟩
  | 91 => ⟨S8192x8192, .f32⟩
  | 92 => ⟨S8192x8192, .f32⟩
  | 93 => ⟨S8192x8192, .f32⟩
  | 94 => ⟨S_, .f32⟩
  | 95 => ⟨S8192x8192, .f32⟩
  | 96 => ⟨S8192x8192, .f32⟩
  | 97 => ⟨S_, .f32⟩
  | 98 => ⟨S8192x8192, .f32⟩
  | 99 => ⟨S8192x8192, .f32⟩
  | 100 => ⟨S8192x8192, .f32⟩
  | 101 => ⟨S_, .f32⟩
  | 102 => ⟨S8192x8192, .f32⟩
  | 103 => ⟨S8192x8192, .f32⟩
  | 104 => ⟨S_, .f32⟩
  | 105 => ⟨S_, .f32⟩
  | 106 => ⟨S_, .f32⟩
  | 107 => ⟨S8192x8192, .f32⟩
  | 108 => ⟨S8192x8192, .f32⟩
  | 109 => ⟨S_, .f32⟩
  | 110 => ⟨S8192x8192, .f32⟩
  | 111 => ⟨S8192x8192, .f32⟩
  | 112 => ⟨S8192x8192, .f32⟩
  | 113 => ⟨S_, .f32⟩
  | 114 => ⟨S8192x8192, .f32⟩
  | 115 => ⟨S8192x8192, .f32⟩
  | 116 => ⟨S8192x8192, .f32⟩
  | 117 => ⟨S_, .f32⟩
  | 118 => ⟨S8192x8192, .f32⟩
  | 119 => ⟨S8192x8192, .f32⟩
  | 120 => ⟨S_, .i32⟩
  | 121 => ⟨S8192x8192, .i32⟩
  | 122 => ⟨S8192x8192, .i1⟩
  | 123 => ⟨S_, .i32⟩
  | 124 => ⟨S8192x8192, .i32⟩
  | 125 => ⟨S8192x8192, .i1⟩
  | 126 => ⟨S_, .i32⟩
  | 127 => ⟨S8192x8192, .i32⟩
  | _ => ⟨S8192x8192, .f32⟩

abbrev hbmTy0_3 (i : Nat) : BufTy := match i % 128 with
  | 0 => ⟨S8192x8192, .i1⟩
  | 1 => ⟨S8192x8192, .f32⟩
  | 2 => ⟨S8192x8192, .f32⟩
  | 3 => ⟨S8192x8192, .f32⟩
  | _ => ⟨S8192x8192, .f32⟩

abbrev hbmTy (i : Nat) : BufTy := match i / 128 with
  | 0 => hbmTy0_0 i
  | 1 => hbmTy0_1 i
  | 2 => hbmTy0_2 i
  | 3 => hbmTy0_3 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_cst_1 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_cst_2 : Ref sig .tc := ⟨.hbm, 22, rfl⟩
abbrev main_call0_v10 : Ref sig .tc := ⟨.hbm, 23, rfl⟩
abbrev main_call0_cst_3 : Ref sig .tc := ⟨.hbm, 24, rfl⟩
abbrev main_call0_cst_4 : Ref sig .tc := ⟨.hbm, 25, rfl⟩
abbrev main_call0_v11 : Ref sig .tc := ⟨.hbm, 26, rfl⟩
abbrev main_call0_cst_5 : Ref sig .tc := ⟨.hbm, 27, rfl⟩
abbrev main_call0_v12 : Ref sig .tc := ⟨.hbm, 28, rfl⟩
abbrev main_call0_cst_6 : Ref sig .tc := ⟨.hbm, 29, rfl⟩
abbrev main_call0_cst_7 : Ref sig .tc := ⟨.hbm, 30, rfl⟩
abbrev main_call0_v13 : Ref sig .tc := ⟨.hbm, 31, rfl⟩
abbrev main_call0_cst_8 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_v2 : Ref sig .tc := ⟨.hbm, 42, rfl⟩
abbrev main_cst_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_v2 : Ref sig .tc := ⟨.hbm, 51, rfl⟩
abbrev main_call1_v3 : Ref sig .tc := ⟨.hbm, 52, rfl⟩
abbrev main_call1_v4 : Ref sig .tc := ⟨.hbm, 53, rfl⟩
abbrev main_call1_cst_0 : Ref sig .tc := ⟨.hbm, 54, rfl⟩
abbrev main_call1_cst_1 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_cst_2 : Ref sig .tc := ⟨.hbm, 61, rfl⟩
abbrev main_call1_v10 : Ref sig .tc := ⟨.hbm, 62, rfl⟩
abbrev main_call1_cst_3 : Ref sig .tc := ⟨.hbm, 63, rfl⟩
abbrev main_call1_cst_4 : Ref sig .tc := ⟨.hbm, 64, rfl⟩
abbrev main_call1_v11 : Ref sig .tc := ⟨.hbm, 65, rfl⟩
abbrev main_call1_cst_5 : Ref sig .tc := ⟨.hbm, 66, rfl⟩
abbrev main_call1_v12 : Ref sig .tc := ⟨.hbm, 67, rfl⟩
abbrev main_call1_cst_6 : Ref sig .tc := ⟨.hbm, 68, rfl⟩
abbrev main_call1_cst_7 : Ref sig .tc := ⟨.hbm, 69, rfl⟩
abbrev main_call1_v13 : Ref sig .tc := ⟨.hbm, 70, rfl⟩
abbrev main_call1_cst_8 : Ref sig .tc := ⟨.hbm, 71, rfl⟩
abbrev main_call1_v14 : Ref sig .tc := ⟨.hbm, 72, rfl⟩
abbrev main_call1_v15 : Ref sig .tc := ⟨.hbm, 73, rfl⟩
abbrev main_call1_v16 : Ref sig .tc := ⟨.hbm, 74, rfl⟩
abbrev main_call1_v17 : Ref sig .tc := ⟨.hbm, 75, rfl⟩
abbrev main_call1_v18 : Ref sig .tc := ⟨.hbm, 76, rfl⟩
abbrev main_call1_v19 : Ref sig .tc := ⟨.hbm, 77, rfl⟩
abbrev main_call1_v20 : Ref sig .tc := ⟨.hbm, 78, rfl⟩
abbrev main_call1_v21 : Ref sig .tc := ⟨.hbm, 79, rfl⟩
abbrev main_call1_v22 : Ref sig .tc := ⟨.hbm, 80, rfl⟩
abbrev main_v3 : Ref sig .tc := ⟨.hbm, 81, rfl⟩
abbrev main_cst_1 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_v2 : Ref sig .tc := ⟨.hbm, 86, rfl⟩
abbrev main_call2_cst : Ref sig .tc := ⟨.hbm, 87, rfl⟩
abbrev main_call2_call0_v0 : Ref sig .tc := ⟨.hbm, 88, rfl⟩
abbrev main_call2_call0_v1 : Ref sig .tc := ⟨.hbm, 89, rfl⟩
abbrev main_call2_call0_v2 : Ref sig .tc := ⟨.hbm, 90, rfl⟩
abbrev main_call2_v3 : Ref sig .tc := ⟨.hbm, 91, rfl⟩
abbrev main_call2_v4 : Ref sig .tc := ⟨.hbm, 92, rfl⟩
abbrev main_call2_cst_0 : Ref sig .tc := ⟨.hbm, 93, rfl⟩
abbrev main_call2_cst_1 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_cst_2 : Ref sig .tc := ⟨.hbm, 100, rfl⟩
abbrev main_call2_v10 : Ref sig .tc := ⟨.hbm, 101, rfl⟩
abbrev main_call2_cst_3 : Ref sig .tc := ⟨.hbm, 102, rfl⟩
abbrev main_call2_cst_4 : Ref sig .tc := ⟨.hbm, 103, rfl⟩
abbrev main_call2_v11 : Ref sig .tc := ⟨.hbm, 104, rfl⟩
abbrev main_call2_cst_5 : Ref sig .tc := ⟨.hbm, 105, rfl⟩
abbrev main_call2_v12 : Ref sig .tc := ⟨.hbm, 106, rfl⟩
abbrev main_call2_cst_6 : Ref sig .tc := ⟨.hbm, 107, rfl⟩
abbrev main_call2_cst_7 : Ref sig .tc := ⟨.hbm, 108, rfl⟩
abbrev main_call2_v13 : Ref sig .tc := ⟨.hbm, 109, rfl⟩
abbrev main_call2_cst_8 : Ref sig .tc := ⟨.hbm, 110, rfl⟩
abbrev main_call2_v14 : Ref sig .tc := ⟨.hbm, 111, rfl⟩
abbrev main_call2_v15 : Ref sig .tc := ⟨.hbm, 112, rfl⟩
abbrev main_call2_v16 : Ref sig .tc := ⟨.hbm, 113, rfl⟩
abbrev main_call2_v17 : Ref sig .tc := ⟨.hbm, 114, rfl⟩
abbrev main_call2_v18 : Ref sig .tc := ⟨.hbm, 115, rfl⟩
abbrev main_call2_v19 : Ref sig .tc := ⟨.hbm, 116, rfl⟩
abbrev main_call2_v20 : Ref sig .tc := ⟨.hbm, 117, rfl⟩
abbrev main_call2_v21 : Ref sig .tc := ⟨.hbm, 118, rfl⟩
abbrev main_call2_v22 : Ref sig .tc := ⟨.hbm, 119, rfl⟩
abbrev main_v4 : Ref sig .tc := ⟨.hbm, 120, rfl⟩
abbrev main_v5 : Ref sig .tc := ⟨.hbm, 121, rfl⟩
abbrev main_v6 : Ref sig .tc := ⟨.hbm, 122, rfl⟩
abbrev main_v7 : Ref sig .tc := ⟨.hbm, 123, rfl⟩
abbrev main_v8 : Ref sig .tc := ⟨.hbm, 124, rfl⟩
abbrev main_v9 : Ref sig .tc := ⟨.hbm, 125, rfl⟩
abbrev main_v10 : Ref sig .tc := ⟨.hbm, 126, rfl⟩
abbrev main_v11 : Ref sig .tc := ⟨.hbm, 127, rfl⟩
abbrev main_v12 : Ref sig .tc := ⟨.hbm, 128, rfl⟩
abbrev main_v13 : Ref sig .tc := ⟨.hbm, 129, rfl⟩
abbrev main_v14 : Ref sig .tc := ⟨.hbm, 130, rfl⟩
abbrev main_v15 : Ref sig .tc := ⟨.hbm, 131, rfl⟩
abbrev main_cst_2 : Ref sig .tc := ⟨.hbm, 132, rfl⟩
abbrev main_cst_3 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v16 : Ref sig .tc := ⟨.hbm, 139, rfl⟩
abbrev main_v17 : Ref sig .tc := ⟨.hbm, 140, rfl⟩
abbrev main_cst_4 : Ref sig .tc := ⟨.hbm, 141, rfl⟩
abbrev main_v18 : Ref sig .tc := ⟨.hbm, 142, rfl⟩
abbrev main_v19 : Ref sig .tc := ⟨.hbm, 143, rfl⟩
abbrev main_v20 : Ref sig .tc := ⟨.hbm, 144, rfl⟩
abbrev main_v21 : Ref sig .tc := ⟨.hbm, 145, rfl⟩
abbrev main_cst_5 : Ref sig .tc := ⟨.hbm, 146, rfl⟩
abbrev main_v22 : Ref sig .tc := ⟨.hbm, 147, rfl⟩
abbrev main_v23 : Ref sig .tc := ⟨.hbm, 148, rfl⟩
abbrev main_cst_6 : Ref sig .tc := ⟨.hbm, 149, rfl⟩
abbrev main_v24 : Ref sig .tc := ⟨.hbm, 150, rfl⟩
abbrev main_v25 : Ref sig .tc := ⟨.hbm, 151, rfl⟩
abbrev main_v26 : Ref sig .tc := ⟨.hbm, 152, rfl⟩
abbrev main_v27 : Ref sig .tc := ⟨.hbm, 153, rfl⟩
abbrev main_v28 : Ref sig .tc := ⟨.hbm, 154, rfl⟩
abbrev main_c : Ref sig .tc := ⟨.hbm, 155, rfl⟩
abbrev main_c_7 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_v29 : Ref sig .tc := ⟨.hbm, 162, rfl⟩
abbrev main_v30 : Ref sig .tc := ⟨.hbm, 163, rfl⟩
abbrev main_v31 : Ref sig .tc := ⟨.hbm, 164, rfl⟩
abbrev main_v32 : Ref sig .tc := ⟨.hbm, 165, rfl⟩
abbrev main_v33 : Ref sig .tc := ⟨.hbm, 166, rfl⟩
abbrev main_cst_8 : Ref sig .tc := ⟨.hbm, 167, rfl⟩
abbrev main_v34 : Ref sig .tc := ⟨.hbm, 168, rfl⟩
abbrev main_v35 : Ref sig .tc := ⟨.hbm, 169, rfl⟩
abbrev main_cst_9 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩
abbrev main_cst_10 : Ref sig .tc := ⟨.hbm, 174, rfl⟩
abbrev main_v39 : Ref sig .tc := ⟨.hbm, 175, rfl⟩
abbrev main_v40 : Ref sig .tc := ⟨.hbm, 176, rfl⟩
abbrev main_cst_11 : Ref sig .tc := ⟨.hbm, 177, rfl⟩
abbrev main_cst_12 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v41 : Ref sig .tc := ⟨.hbm, 184, rfl⟩
abbrev main_v42 : Ref sig .tc := ⟨.hbm, 185, rfl⟩
abbrev main_cst_13 : Ref sig .tc := ⟨.hbm, 186, rfl⟩
abbrev main_v43 : Ref sig .tc := ⟨.hbm, 187, rfl⟩
abbrev main_v44 : Ref sig .tc := ⟨.hbm, 188, rfl⟩
abbrev main_v45 : Ref sig .tc := ⟨.hbm, 189, rfl⟩
abbrev main_cst_14 : Ref sig .tc := ⟨.hbm, 190, rfl⟩
abbrev main_v46 : Ref sig .tc := ⟨.hbm, 191, rfl⟩
abbrev main_v47 : Ref sig .tc := ⟨.hbm, 192, rfl⟩
abbrev main_cst_15 : Ref sig .tc := ⟨.hbm, 193, rfl⟩
abbrev main_cst_16 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_v48 : Ref sig .tc := ⟨.hbm, 200, rfl⟩
abbrev main_v49 : Ref sig .tc := ⟨.hbm, 201, rfl⟩
abbrev main_cst_17 : Ref sig .tc := ⟨.hbm, 202, rfl⟩
abbrev main_v50 : Ref sig .tc := ⟨.hbm, 203, rfl⟩
abbrev main_v51 : Ref sig .tc := ⟨.hbm, 204, rfl⟩
abbrev main_v52 : Ref sig .tc := ⟨.hbm, 205, rfl⟩
abbrev main_v53 : Ref sig .tc := ⟨.hbm, 206, rfl⟩
abbrev main_cst_18 : Ref sig .tc := ⟨.hbm, 207, rfl⟩
abbrev main_v54 : Ref sig .tc := ⟨.hbm, 208, rfl⟩
abbrev main_v55 : Ref sig .tc := ⟨.hbm, 209, rfl⟩
abbrev main_cst_19 : Ref sig .tc := ⟨.hbm, 210, rfl⟩
abbrev main_v56 : Ref sig .tc := ⟨.hbm, 211, rfl⟩
abbrev main_v57 : Ref sig .tc := ⟨.hbm, 212, rfl⟩
abbrev main_v58 : Ref sig .tc := ⟨.hbm, 213, rfl⟩
abbrev main_v59 : Ref sig .tc := ⟨.hbm, 214, rfl⟩
abbrev main_v60 : Ref sig .tc := ⟨.hbm, 215, rfl⟩
abbrev main_c_20 : Ref sig .tc := ⟨.hbm, 216, rfl⟩
abbrev main_c_21 : Ref sig .tc := ⟨.hbm, 217, rfl⟩
abbrev main_call9_v0 : Ref sig .tc := ⟨.hbm, 218, rfl⟩
abbrev main_call9_v1 : Ref sig .tc := ⟨.hbm, 219, rfl⟩
abbrev main_call9_v2 : Ref sig .tc := ⟨.hbm, 220, rfl⟩
abbrev main_call9_v3 : Ref sig .tc := ⟨.hbm, 221, rfl⟩
abbrev main_call9_v4 : Ref sig .tc := ⟨.hbm, 222, rfl⟩
abbrev main_v61 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_cst_22 : Ref sig .tc := ⟨.hbm, 228, rfl⟩
abbrev main_v66 : Ref sig .tc := ⟨.hbm, 229, rfl⟩
abbrev main_v67 : Ref sig .tc := ⟨.hbm, 230, rfl⟩
abbrev main_cst_23 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩
abbrev main_cst_24 : Ref sig .tc := ⟨.hbm, 235, rfl⟩
abbrev main_v71 : Ref sig .tc := ⟨.hbm, 236, rfl⟩
abbrev main_v72 : Ref sig .tc := ⟨.hbm, 237, rfl⟩
abbrev main_cst_25 : Ref sig .tc := ⟨.hbm, 238, rfl⟩
abbrev main_cst_26 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v73 : Ref sig .tc := ⟨.hbm, 245, rfl⟩
abbrev main_v74 : Ref sig .tc := ⟨.hbm, 246, rfl⟩
abbrev main_cst_27 : Ref sig .tc := ⟨.hbm, 247, rfl⟩
abbrev main_v75 : Ref sig .tc := ⟨.hbm, 248, rfl⟩
abbrev main_v76 : Ref sig .tc := ⟨.hbm, 249, rfl⟩
abbrev main_v77 : Ref sig .tc := ⟨.hbm, 250, rfl⟩
abbrev main_cst_28 : Ref sig .tc := ⟨.hbm, 251, rfl⟩
abbrev main_v78 : Ref sig .tc := ⟨.hbm, 252, rfl⟩
abbrev main_v79 : Ref sig .tc := ⟨.hbm, 253, rfl⟩
abbrev main_cst_29 : Ref sig .tc := ⟨.hbm, 254, rfl⟩
abbrev main_cst_30 : Ref sig .tc := ⟨.hbm, 255, rfl⟩
abbrev main_call13_v0 : Ref sig .tc := ⟨.hbm, 256, rfl⟩
abbrev main_call13_v1 : Ref sig .tc := ⟨.hbm, 257, rfl⟩
abbrev main_call13_v2 : Ref sig .tc := ⟨.hbm, 258, rfl⟩
abbrev main_call13_v3 : Ref sig .tc := ⟨.hbm, 259, rfl⟩
abbrev main_call13_v4 : Ref sig .tc := ⟨.hbm, 260, rfl⟩
abbrev main_v80 : Ref sig .tc := ⟨.hbm, 261, rfl⟩
abbrev main_v81 : Ref sig .tc := ⟨.hbm, 262, rfl⟩
abbrev main_cst_31 : Ref sig .tc := ⟨.hbm, 263, rfl⟩
abbrev main_v82 : Ref sig .tc := ⟨.hbm, 264, rfl⟩
abbrev main_v83 : Ref sig .tc := ⟨.hbm, 265, rfl⟩
abbrev main_v84 : Ref sig .tc := ⟨.hbm, 266, rfl⟩
abbrev main_v85 : Ref sig .tc := ⟨.hbm, 267, rfl⟩
abbrev main_cst_32 : Ref sig .tc := ⟨.hbm, 268, rfl⟩
abbrev main_v86 : Ref sig .tc := ⟨.hbm, 269, rfl⟩
abbrev main_v87 : Ref sig .tc := ⟨.hbm, 270, rfl⟩
abbrev main_cst_33 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_c_34 : Ref sig .tc := ⟨.hbm, 277, rfl⟩
abbrev main_c_35 : Ref sig .tc := ⟨.hbm, 278, rfl⟩
abbrev main_call14_v0 : Ref sig .tc := ⟨.hbm, 279, rfl⟩
abbrev main_call14_v1 : Ref sig .tc := ⟨.hbm, 280, rfl⟩
abbrev main_call14_v2 : Ref sig .tc := ⟨.hbm, 281, rfl⟩
abbrev main_call14_v3 : Ref sig .tc := ⟨.hbm, 282, rfl⟩
abbrev main_call14_v4 : Ref sig .tc := ⟨.hbm, 283, rfl⟩
abbrev main_v93 : Ref sig .tc := ⟨.hbm, 284, rfl⟩
abbrev main_v94 : Ref sig .tc := ⟨.hbm, 285, rfl⟩
abbrev main_v95 : Ref sig .tc := ⟨.hbm, 286, rfl⟩
abbrev main_v96 : Ref sig .tc := ⟨.hbm, 287, rfl⟩
abbrev main_v97 : Ref sig .tc := ⟨.hbm, 288, rfl⟩
abbrev main_cst_36 : Ref sig .tc := ⟨.hbm, 289, rfl⟩
abbrev main_v98 : Ref sig .tc := ⟨.hbm, 290, rfl⟩
abbrev main_v99 : Ref sig .tc := ⟨.hbm, 291, rfl⟩
abbrev main_cst_37 : Ref sig .tc := ⟨.hbm, 292, rfl⟩
abbrev main_v100 : Ref sig .tc := ⟨.hbm, 293, rfl⟩
abbrev main_v101 : Ref sig .tc := ⟨.hbm, 294, rfl⟩
abbrev main_v102 : Ref sig .tc := ⟨.hbm, 295, rfl⟩
abbrev main_cst_38 : Ref sig .tc := ⟨.hbm, 296, rfl⟩
abbrev main_v103 : Ref sig .tc := ⟨.hbm, 297, rfl⟩
abbrev main_v104 : Ref sig .tc := ⟨.hbm, 298, rfl⟩
abbrev main_cst_39 : Ref sig .tc := ⟨.hbm, 299, rfl⟩
abbrev main_cst_40 : Ref sig .tc := ⟨.hbm, 300, rfl⟩
abbrev main_call16_v0 : Ref sig .tc := ⟨.hbm, 301, rfl⟩
abbrev main_call16_v1 : Ref sig .tc := ⟨.hbm, 302, rfl⟩
abbrev main_call16_v2 : Ref sig .tc := ⟨.hbm, 303, rfl⟩
abbrev main_call16_v3 : Ref sig .tc := ⟨.hbm, 304, rfl⟩
abbrev main_call16_v4 : Ref sig .tc := ⟨.hbm, 305, rfl⟩
abbrev main_v105 : Ref sig .tc := ⟨.hbm, 306, rfl⟩
abbrev main_v106 : Ref sig .tc := ⟨.hbm, 307, rfl⟩
abbrev main_cst_41 : Ref sig .tc := ⟨.hbm, 308, rfl⟩
abbrev main_v107 : Ref sig .tc := ⟨.hbm, 309, rfl⟩
abbrev main_v108 : Ref sig .tc := ⟨.hbm, 310, rfl⟩
abbrev main_v109 : Ref sig .tc := ⟨.hbm, 311, rfl⟩
abbrev main_cst_42 : Ref sig .tc := ⟨.hbm, 312, rfl⟩
abbrev main_v110 : Ref sig .tc := ⟨.hbm, 313, rfl⟩
abbrev main_v111 : Ref sig .tc := ⟨.hbm, 314, rfl⟩
abbrev main_cst_43 : Ref sig .tc := ⟨.hbm, 315, rfl⟩
abbrev main_cst_44 : Ref sig .tc := ⟨.hbm, 316, rfl⟩
abbrev main_call18_v0 : Ref sig .tc := ⟨.hbm, 317, rfl⟩
abbrev main_call18_v1 : Ref sig .tc := ⟨.hbm, 318, rfl⟩
abbrev main_call18_v2 : Ref sig .tc := ⟨.hbm, 319, rfl⟩
abbrev main_call18_v3 : Ref sig .tc := ⟨.hbm, 320, rfl⟩
abbrev main_call18_v4 : Ref sig .tc := ⟨.hbm, 321, rfl⟩
abbrev main_v112 : Ref sig .tc := ⟨.hbm, 322, rfl⟩
abbrev main_v113 : Ref sig .tc := ⟨.hbm, 323, rfl⟩
abbrev main_cst_45 : Ref sig .tc := ⟨.hbm, 324, rfl⟩
abbrev main_v114 : Ref sig .tc := ⟨.hbm, 325, rfl⟩
abbrev main_v115 : Ref sig .tc := ⟨.hbm, 326, rfl⟩
abbrev main_v116 : Ref sig .tc := ⟨.hbm, 327, rfl⟩
abbrev main_v117 : Ref sig .tc := ⟨.hbm, 328, rfl⟩
abbrev main_cst_46 : Ref sig .tc := ⟨.hbm, 329, rfl⟩
abbrev main_v118 : Ref sig .tc := ⟨.hbm, 330, rfl⟩
abbrev main_v119 : Ref sig .tc := ⟨.hbm, 331, rfl⟩
abbrev main_cst_47 : Ref sig .tc := ⟨.hbm, 332, rfl⟩
abbrev main_v120 : Ref sig .tc := ⟨.hbm, 333, rfl⟩
abbrev main_v121 : Ref sig .tc := ⟨.hbm, 334, rfl⟩
abbrev main_v122 : Ref sig .tc := ⟨.hbm, 335, rfl⟩
abbrev main_v123 : Ref sig .tc := ⟨.hbm, 336, rfl⟩
abbrev main_v124 : Ref sig .tc := ⟨.hbm, 337, rfl⟩
abbrev main_c_48 : Ref sig .tc := ⟨.hbm, 338, rfl⟩
abbrev main_c_49 : Ref sig .tc := ⟨.hbm, 339, rfl⟩
abbrev main_call19_v0 : Ref sig .tc := ⟨.hbm, 340, rfl⟩
abbrev main_call19_v1 : Ref sig .tc := ⟨.hbm, 341, rfl⟩
abbrev main_call19_v2 : Ref sig .tc := ⟨.hbm, 342, rfl⟩
abbrev main_call19_v3 : Ref sig .tc := ⟨.hbm, 343, rfl⟩
abbrev main_call19_v4 : Ref sig .tc := ⟨.hbm, 344, rfl⟩
abbrev main_v125 : Ref sig .tc := ⟨.hbm, 345, rfl⟩
abbrev main_v126 : Ref sig .tc := ⟨.hbm, 346, rfl⟩
abbrev main_v127 : Ref sig .tc := ⟨.hbm, 347, rfl⟩
abbrev main_v128 : Ref sig .tc := ⟨.hbm, 348, rfl⟩
abbrev main_v129 : Ref sig .tc := ⟨.hbm, 349, rfl⟩
abbrev main_cst_50 : Ref sig .tc := ⟨.hbm, 350, rfl⟩
abbrev main_v130 : Ref sig .tc := ⟨.hbm, 351, rfl⟩
abbrev main_v131 : Ref sig .tc := ⟨.hbm, 352, rfl⟩
abbrev main_cst_51 : Ref sig .tc := ⟨.hbm, 353, rfl⟩
abbrev main_v132 : Ref sig .tc := ⟨.hbm, 354, rfl⟩
abbrev main_v133 : Ref sig .tc := ⟨.hbm, 355, rfl⟩
abbrev main_v134 : Ref sig .tc := ⟨.hbm, 356, rfl⟩
abbrev main_cst_52 : Ref sig .tc := ⟨.hbm, 357, rfl⟩
abbrev main_v135 : Ref sig .tc := ⟨.hbm, 358, rfl⟩
abbrev main_v136 : Ref sig .tc := ⟨.hbm, 359, rfl⟩
abbrev main_cst_53 : Ref sig .tc := ⟨.hbm, 360, rfl⟩
abbrev main_cst_54 : Ref sig .tc := ⟨.hbm, 361, rfl⟩
abbrev main_call21_v0 : Ref sig .tc := ⟨.hbm, 362, rfl⟩
abbrev main_call21_v1 : Ref sig .tc := ⟨.hbm, 363, rfl⟩
abbrev main_call21_v2 : Ref sig .tc := ⟨.hbm, 364, rfl⟩
abbrev main_call21_v3 : Ref sig .tc := ⟨.hbm, 365, rfl⟩
abbrev main_call21_v4 : Ref sig .tc := ⟨.hbm, 366, rfl⟩
abbrev main_v137 : Ref sig .tc := ⟨.hbm, 367, rfl⟩
abbrev main_v138 : Ref sig .tc := ⟨.hbm, 368, rfl⟩
abbrev main_cst_55 : Ref sig .tc := ⟨.hbm, 369, rfl⟩
abbrev main_v139 : Ref sig .tc := ⟨.hbm, 370, rfl⟩
abbrev main_v140 : Ref sig .tc := ⟨.hbm, 371, rfl⟩
abbrev main_v141 : Ref sig .tc := ⟨.hbm, 372, rfl⟩
abbrev main_cst_56 : Ref sig .tc := ⟨.hbm, 373, rfl⟩
abbrev main_v142 : Ref sig .tc := ⟨.hbm, 374, rfl⟩
abbrev main_v143 : Ref sig .tc := ⟨.hbm, 375, rfl⟩
abbrev main_c_57 : Ref sig .tc := ⟨.hbm, 376, rfl⟩
abbrev main_v144 : Ref sig .tc := ⟨.hbm, 377, rfl⟩
abbrev main_v145 : Ref sig .tc := ⟨.hbm, 378, rfl⟩
abbrev main_c_58 : Ref sig .tc := ⟨.hbm, 379, rfl⟩
abbrev main_v146 : Ref sig .tc := ⟨.hbm, 380, rfl⟩
abbrev main_v147 : Ref sig .tc := ⟨.hbm, 381, rfl⟩
abbrev main_c_59 : Ref sig .tc := ⟨.hbm, 382, rfl⟩
abbrev main_v148 : Ref sig .tc := ⟨.hbm, 383, rfl⟩
abbrev main_v149 : Ref sig .tc := ⟨.hbm, 384, rfl⟩
abbrev main_v150 : Ref sig .tc := ⟨.hbm, 385, rfl⟩
abbrev main_v151 : Ref sig .tc := ⟨.hbm, 386, rfl⟩
abbrev main_v152 : Ref sig .tc := ⟨.hbm, 387, rfl⟩

abbrev nD : Nat := 1
abbrev τ : Topo := Topo.v7x

variable {F : FTy → Type} [FloatOps F]
-- ==== Proof.QuantMath.lean ====
/- The arithmetic of one element of the quantiser, over the extended reals, with no program in it: the kernel's form
   (exponent as an integer, the power of two multiplied in, the mantissa clipped before it is scaled back) equals the
   reference's form (clip the value first, divide by the power of two, clip the scaled mantissa). -/
module

public import Idealize.ShloMosaic.PureOps
public import Idealize.ShloMosaic.PureOps.Ideal

@[expose] public section

noncomputable section

namespace Quant

open Idealize.ShloMosaic

/-- The kernel's exponent of `a`: `⌊log a · (1 / log 2)⌋ + 127` turned into a 32-bit integer (saturating), less 127,
    clamped to `[m, M]`. -/
def kExp (m M : ℤ) (a : EReal) : ℤ :=
  min M (max m (Ideal.toIntClamped (-(2 ^ 31)) (2 ^ 31 - 1)
    (Ideal.liftRound Int.floor (Ideal.log a * (((Real.log 2)⁻¹ : ℝ) : EReal)) + ((127 : ℝ) : EReal)) - 127))

/-- The kernel's mantissa step count for `a` at exponent `e`: `a · 2⁻ᵉ - 1` in units of `1 / N`, rounded to the nearest
    integer (ties to even) and clipped to `[0, N - 1]`. -/
def kSteps (N : ℝ) (e : ℤ) (a : EReal) : EReal :=
  min ((N : EReal) - 1) (max 0 (Ideal.liftRound Ideal.roundHalfEven ((a * (((2 : ℝ) ^ (-e) : ℝ) : EReal) - 1) * (N : EReal))))

/-- The kernel's value at `x`: `N` mantissa levels, least magnitude `mv`, exponents `m` to `M`. -/
def kForm (N mv : ℝ) (m M : ℤ) (x : EReal) : EReal :=
  if max x (-x) < (mv : EReal) then 0 else
    (((2 : ℝ) ^ kExp m M (max (max x (-x)) mv) : ℝ) : EReal)
        * (1 + kSteps N (kExp m M (max (max x (-x)) mv)) (max (max x (-x)) mv) * ((N⁻¹ : ℝ) : EReal))
      * (if x < 0 then -1 else 1)

/-- `x` clipped to `[-mx, mx]`. -/
def clipTo (mx : ℝ) (x : EReal) : EReal := min (mx : EReal) (max ((-mx : ℝ) : EReal) x)

/-- The reference's power of two for `a`: two to the clipped floor of its binary logarithm. -/
def rPow (m M : ℤ) (a : EReal) : EReal :=
  Ideal.exp (min ((M : ℝ) : EReal) (max ((m : ℝ) : EReal)
    (Ideal.liftRound Int.floor (Ideal.div (Ideal.log a) ((Real.log 2 : ℝ) : EReal)))) * ((Real.log 2 : ℝ) : EReal))

/-- The reference's mantissa for `a` at the power of two `p`. -/
def rMant (N : ℝ) (p a : EReal) : EReal :=
  min ((1 - 1 / N : ℝ) : EReal) (max 0
    (Ideal.div (Ideal.liftRound Ideal.roundHalfEven ((Ideal.div a p - 1) * (N : EReal))) (N : EReal)))

/-- The reference's value at `x`: clip to `±mx`, then quantise. -/
def rForm (N mv mx : ℝ) (m M : ℤ) (x : EReal) : EReal :=
  if max (clipTo mx x) (-clipTo mx x) < (mv : EReal) then 0 else
    Ideal.sign (clipTo mx x) * rPow m M (max (max (clipTo mx x) (-clipTo mx x)) mv)
      * (1 + rMant N (rPow m M (max (max (clipTo mx x) (-clipTo mx x)) mv)) (max (max (clipTo mx x) (-clipTo mx x)) mv))

/-- Rounding to the nearest integer is at least the floor. -/
theorem floor_le_round (r : ℝ) : ⌊r⌋ ≤ Ideal.roundHalfEven r := by
  unfold Ideal.roundHalfEven
  dsimp only
  split_ifs <;> omega

/-- Rounding fixes an integer. -/
theorem round_int (z : ℤ) : Ideal.roundHalfEven (z : ℝ) = z := by
  unfold Ideal.roundHalfEven
  simp

theorem log_two_pos : 0 < Real.log 2 := Real.log_pos (by norm_num)

/-- The binary logarithm's floor is at least `M` from `2 ^ M` on. -/
theorem le_floor_log {c : ℝ} {M : ℤ} (h : (2 : ℝ) ^ M ≤ c) : M ≤ ⌊Real.log c / Real.log 2⌋ := by
  rw [Int.le_floor, le_div_iff₀ log_two_pos, ← Real.log_zpow]
  exact Real.log_le_log (by positivity) h

/-- The kernel's exponent of a positive real is the clamped floor of its binary logarithm. -/
theorem kExp_coe {m M : ℤ} (hm : -1000 ≤ m) (hmM : m ≤ M) (hM : M ≤ 1000) {c : ℝ} (hc : 0 < c) :
    kExp m M (c : EReal) = min M (max m ⌊Real.log c / Real.log 2⌋) := by
  unfold kExp
  rw [Ideal.log_coe, if_neg (not_le.mpr hc), ← EReal.coe_mul, Ideal.liftRound_coe, ← EReal.coe_add,
    Ideal.toIntClamped_coe, ← div_eq_mul_inv]
  generalize ⌊Real.log c / Real.log 2⌋ = z
  rw [show ((z : ℝ) + 127) = ((z + 127 : ℤ) : ℝ) by push_cast; ring, Int.floor_intCast, Int.ceil_intCast, ite_self]
  omega

/-- The kernel's exponent of `⊤` is the largest. -/
theorem kExp_top {m M : ℤ} (hM : M ≤ 1000) (hmM : m ≤ M) : kExp m M ⊤ = M := by
  unfold kExp
  rw [Ideal.log_top, EReal.top_mul_coe_of_pos (inv_pos.mpr log_two_pos), Ideal.liftRound_top, EReal.top_add_coe,
    Ideal.toIntClamped_top]
  omega

/-- The reference's power of two at a positive real is two to the kernel's exponent. -/
theorem rPow_coe {m M : ℤ} (hm : -1000 ≤ m) (hmM : m ≤ M) (hM : M ≤ 1000) {c : ℝ} (hc : 0 < c) :
    rPow m M (c : EReal) = (((2 : ℝ) ^ kExp m M (c : EReal) : ℝ) : EReal) := by
  rw [kExp_coe hm hmM hM hc]
  unfold rPow
  rw [Ideal.log_coe, if_neg (not_le.mpr hc), Ideal.div_coe log_two_pos.ne', ← EReal.coe_mul, mul_one_div,
    Ideal.liftRound_coe]
  generalize ⌊Real.log c / Real.log 2⌋ = z
  have h : min ((M : ℝ) : EReal) (max ((m : ℝ) : EReal) ((z : ℝ) : EReal)) = (((min M (max m z) : ℤ) : ℝ) : EReal) := by
    push_cast
    rw [EReal.coe_strictMono.monotone.map_min, EReal.coe_strictMono.monotone.map_max]
  rw [h, ← EReal.coe_mul, Ideal.exp_coe]
  congr 1
  rw [mul_comm, Real.exp_mul, Real.exp_log (by norm_num), Real.rpow_intCast]

/-- The two mantissas agree at a real: clipping the step count and scaling back, or scaling back and clipping. -/
theorem mant_coe {N : ℤ} (hN : 1 ≤ N) (e : ℤ) (c : ℝ) :
    kSteps N e (c : EReal) * (((N : ℝ)⁻¹ : ℝ) : EReal) = rMant N (((2 : ℝ) ^ e : ℝ) : EReal) (c : EReal) := by
  have hN0 : (0 : ℝ) < N := by exact_mod_cast hN
  have hp : (0 : ℝ) < (2 : ℝ) ^ e := by positivity
  unfold kSteps rMant
  rw [Ideal.div_coe hp.ne', Ideal.div_coe hN0.ne', ← EReal.coe_mul, ← EReal.coe_mul, zpow_neg, one_div]
  rw [show (1 : EReal) = ((1 : ℝ) : EReal) from rfl, show (0 : EReal) = ((0 : ℝ) : EReal) from rfl]
  simp only [← EReal.coe_sub, ← EReal.coe_mul, Ideal.liftRound_coe, one_div]
  generalize Ideal.roundHalfEven _ = k
  rw [← EReal.coe_strictMono.monotone.map_max, ← EReal.coe_strictMono.monotone.map_min, ← EReal.coe_mul,
    ← EReal.coe_strictMono.monotone.map_max, ← EReal.coe_strictMono.monotone.map_min]
  congr 1
  rw [min_mul_of_nonneg _ _ (inv_pos.mpr hN0).le, max_mul_of_nonneg _ _ (inv_pos.mpr hN0).le, zero_mul]
  congr 1
  field_simp

/-- Clipping a value clips its magnitude. -/
theorem abs_clip {mx : ℝ} (hmx : 0 ≤ mx) (x : EReal) :
    max (clipTo mx x) (-clipTo mx x) = min (max x (-x)) (mx : EReal) := by
  unfold clipTo
  induction x with
  | bot =>
    have h : ((-mx : ℝ) : EReal) ≤ (mx : EReal) := by exact_mod_cast (by linarith : -mx ≤ mx)
    rw [max_bot_right, min_eq_right h, EReal.neg_bot, max_bot_left, min_top_left, ← EReal.coe_neg, neg_neg,
      max_eq_right h]
  | top =>
    rw [max_top_right, min_top_right, EReal.neg_top, max_bot_right, min_top_left]
    rw [← EReal.coe_neg]
    exact max_eq_left (by exact_mod_cast (by linarith : -mx ≤ mx))
  | coe r =>
    rw [← EReal.coe_strictMono.monotone.map_max, ← EReal.coe_strictMono.monotone.map_min, ← EReal.coe_neg,
      ← EReal.coe_strictMono.monotone.map_max, ← EReal.coe_neg, ← EReal.coe_strictMono.monotone.map_max,
      ← EReal.coe_strictMono.monotone.map_min]
    congr 1
    simp only [max_def, min_def]
    split_ifs <;> linarith

/-- Off zero the clipped value's sign is `-1` below zero and `1` else. -/
theorem sign_clip {mx : ℝ} (hmx : 0 < mx) {x : EReal} (hx : x ≠ 0) :
    Ideal.sign (clipTo mx x) = if x < 0 then -1 else 1 := by
  unfold clipTo
  induction x with
  | bot =>
    have h : ((-mx : ℝ) : EReal) ≤ (mx : EReal) := by exact_mod_cast (by linarith : -mx ≤ mx)
    rw [max_bot_right, min_eq_right h, Ideal.sign_coe, sign_neg (by linarith), if_pos EReal.bot_lt_zero]
    norm_num
  | top =>
    rw [max_top_right, min_top_right, Ideal.sign_coe, sign_pos hmx, if_neg (by simp)]
    norm_num
  | coe r =>
    rw [← EReal.coe_strictMono.monotone.map_max, ← EReal.coe_strictMono.monotone.map_min, Ideal.sign_coe]
    have hr : r ≠ 0 := fun h => hx (by rw [h]; rfl)
    rcases lt_or_gt_of_ne hr with h | h
    · rw [if_pos (by exact_mod_cast h), sign_neg (by
        rcases max_cases (-mx) r with ⟨e, _⟩ | ⟨e, _⟩ <;> rw [e] <;> exact (min_le_right _ _).trans_lt (by linarith))]
      norm_num
    · rw [if_neg (by exact_mod_cast not_lt.mpr h.le), sign_pos (lt_min hmx (lt_max_of_lt_right h))]
      norm_num

/-- Past the largest magnitude the kernel keeps the largest exponent. -/
theorem kExp_past {m M : ℤ} (hm : -1000 ≤ m) (hmM : m ≤ M) (hM : M ≤ 1000) {a : EReal}
    (ha : (((2 : ℝ) ^ M : ℝ) : EReal) ≤ a) : kExp m M a = M := by
  induction a with
  | bot => exact absurd ha (by simp)
  | top => exact kExp_top hM hmM
  | coe r =>
    have hr : (2 : ℝ) ^ M ≤ r := by exact_mod_cast ha
    rw [kExp_coe hm hmM hM (lt_of_lt_of_le (by positivity) hr)]
    have := le_floor_log hr
    omega

/-- From the largest magnitude on the kernel's step count at the largest exponent is `N - 1`. -/
theorem kSteps_past {N : ℤ} (hN : 1 ≤ N) {M : ℤ} {a : EReal}
    (ha : (((2 : ℝ) ^ M * (2 - 1 / N) : ℝ) : EReal) ≤ a) : kSteps N M a = (N : ℝ) - 1 := by
  have hN0 : (0 : ℝ) < N := by exact_mod_cast hN
  have hp : (0 : ℝ) < (2 : ℝ) ^ M := by positivity
  have hq : (0 : ℝ) < (2 : ℝ) ^ (-M) := by positivity
  unfold kSteps
  apply min_eq_left
  refine le_trans ?_ (le_max_right _ _)
  induction a with
  | bot => exact absurd (le_bot_iff.mp ha) (EReal.coe_ne_bot _)
  | top =>
    rw [EReal.top_mul_coe_of_pos hq, show (1 : EReal) = ((1 : ℝ) : EReal) from rfl, EReal.top_sub_coe,
      EReal.top_mul_coe_of_pos hN0, Ideal.liftRound_top]
    exact le_top
  | coe r =>
    have hr : (2 : ℝ) ^ M * (2 - 1 / N) ≤ r := by exact_mod_cast ha
    rw [show (1 : EReal) = ((1 : ℝ) : EReal) from rfl, ← EReal.coe_mul, ← EReal.coe_sub, ← EReal.coe_sub,
      ← EReal.coe_mul, Ideal.liftRound_coe, EReal.coe_le_coe_iff]
    have h1 : (2 - 1 / (N : ℝ)) ≤ r * (2 : ℝ) ^ (-M) := by
      rw [zpow_neg, ← div_eq_mul_inv, le_div_iff₀ hp]; linarith
    have h2 : ((N - 1 : ℤ) : ℝ) ≤ (r * (2 : ℝ) ^ (-M) - 1) * N := by
      have : (1 - 1 / (N : ℝ)) * N ≤ (r * (2 : ℝ) ^ (-M) - 1) * N := by
        apply mul_le_mul_of_nonneg_right _ hN0.le
        linarith
      refine le_trans (le_of_eq ?_) this
      push_cast
      field_simp
    have h3 : N - 1 ≤ Ideal.roundHalfEven ((r * (2 : ℝ) ^ (-M) - 1) * N) :=
      (Int.le_floor.mpr h2).trans (floor_le_round _)
    exact_mod_cast h3

/-- THE ELEMENT: with `N` levels, exponents `m ≤ M`, least magnitude `mv ≤ 2 ^ M` and largest `2 ^ M · (2 - 1 / N)`, the
    kernel's form and the reference's are equal at every extended real. -/
theorem kForm_eq_rForm {N : ℤ} (hN : 1 ≤ N) {m M : ℤ} (hm : -1000 ≤ m) (hmM : m ≤ M) (hM : M ≤ 1000) {mv mx : ℝ}
    (hmv : 0 < mv) (hle : mv ≤ (2 : ℝ) ^ M) (hmx : mx = (2 : ℝ) ^ M * (2 - 1 / N)) (x : EReal) :
    kForm N mv m M x = rForm N mv mx m M x := by
  have hN0 : (0 : ℝ) < N := by exact_mod_cast hN
  have hN1 : (1 : ℝ) ≤ N := by exact_mod_cast hN
  have hp : (0 : ℝ) < (2 : ℝ) ^ M := by positivity
  have hpm : (2 : ℝ) ^ M ≤ mx := by
    rw [hmx]
    have : 1 / (N : ℝ) ≤ 1 := by rw [div_le_one hN0]; exact hN1
    nlinarith
  have hmx0 : 0 < mx := lt_of_lt_of_le hp hpm
  have hvx : mv ≤ mx := hle.trans hpm
  unfold kForm rForm
  rw [abs_clip hmx0.le]
  by_cases hmask : max x (-x) < (mv : EReal)
  · rw [if_pos hmask, if_pos (lt_of_le_of_lt (min_le_left _ _) hmask)]
  have ha : (mv : EReal) ≤ max x (-x) := not_lt.mp hmask
  have hx0 : x ≠ 0 := by
    rintro rfl
    apply hmask
    rw [neg_zero, max_self]
    exact_mod_cast hmv
  rw [if_neg hmask, if_neg (not_lt.mpr (le_min ha (by exact_mod_cast hvx))), sign_clip hmx0 hx0, max_eq_left ha,
    max_eq_left (le_min ha (by exact_mod_cast hvx)), mul_assoc (if x < 0 then (-1 : EReal) else 1), mul_comm _ (if x < 0 then (-1 : EReal) else 1)]
  congr 1
  generalize max x (-x) = a at ha
  by_cases hax : a ≤ (mx : EReal)
  · rw [min_eq_left hax]
    induction a with
    | bot => exact absurd ha (by simp)
    | top => exact absurd hax (by simp)
    | coe c =>
      have hc : 0 < c := lt_of_lt_of_le hmv (by exact_mod_cast ha)
      rw [rPow_coe hm hmM hM hc, mant_coe hN]
  · have hax' : (mx : EReal) ≤ a := (not_le.mp hax).le
    have e1 : kExp m M a = M := kExp_past hm hmM hM (le_trans (by exact_mod_cast hpm) hax')
    have e2 : kExp m M (mx : EReal) = M := kExp_past hm hmM hM (by exact_mod_cast hpm)
    rw [min_eq_right hax', rPow_coe hm hmM hM hmx0, e1, e2, ← mant_coe hN, kSteps_past hN (hmx ▸ hax'),
      kSteps_past hN (hmx ▸ le_rfl)]

end Quant
end
-- ==== Proof.Consts.lean ====
/- The float literals of the programs: each theorem reads one 32-bit word as the rational number that it denotes. -/
module

public import Idealize.ShloMosaic.PureOps
public import Idealize.ShloMosaic.PureOps.Ideal

@[expose] public section

open Idealize.ShloMosaic

namespace Quant

/-- The word of `0.0`. -/
theorem lit_zero : Ideal.ofBits .f32 0x00000000#32 = ((0 : ℝ) : EReal) := by
  simp [Ideal.ofBits, Ideal.ieee, -EReal.coe_mul]
/-- The word of `1.0`. -/
theorem lit_one : Ideal.ofBits .f32 0x3F800000#32 = ((1 : ℝ) : EReal) := by
  simp [Ideal.ofBits, Ideal.ieee, -EReal.coe_mul]; norm_num
/-- The word of `-1.0`. -/
theorem lit_neg_one : Ideal.ofBits .f32 0xBF800000#32 = ((-1 : ℝ) : EReal) := by
  simp [Ideal.ofBits, Ideal.ieee, -EReal.coe_mul]; norm_num
/-- The word of `2.0`. -/
theorem lit_two : Ideal.ofBits .f32 0x40000000#32 = ((2 : ℝ) : EReal) := by
  simp [Ideal.ofBits, Ideal.ieee, -EReal.coe_mul]; norm_num
/-- The word of `127.0`. -/
theorem lit_127 : Ideal.ofBits .f32 0x42FE0000#32 = ((127 : ℝ) : EReal) := by
  simp [Ideal.ofBits, Ideal.ieee, -EReal.coe_mul]; norm_num
/-- The word of `32.0`. -/
theorem lit_32 : Ideal.ofBits .f32 0x42000000#32 = ((32 : ℝ) : EReal) := by
  simp [Ideal.ofBits, Ideal.ieee, -EReal.coe_mul]; norm_num
/-- The word of `16.0`. -/
theorem lit_16 : Ideal.ofBits .f32 0x41800000#32 = ((16 : ℝ) : EReal) := by
  simp [Ideal.ofBits, Ideal.ieee, -EReal.coe_mul]; norm_num
/-- The word of `4.0`. -/
theorem lit_4 : Ideal.ofBits .f32 0x40800000#32 = ((4 : ℝ) : EReal) := by
  simp [Ideal.ofBits, Ideal.ieee, -EReal.coe_mul]; norm_num

/-! The largest magnitudes of the four formats, and their negatives. -/

theorem lit_max0 : Ideal.ofBits .f32 0x40FC0000#32 = ((7.875 : ℝ) : EReal) := by
  simp [Ideal.ofBits, Ideal.ieee, -EReal.coe_mul]; norm_num
theorem lit_nmax0 : Ideal.ofBits .f32 0xC0FC0000#32 = ((-7.875 : ℝ) : EReal) := by
  simp [Ideal.ofBits, Ideal.ieee, -EReal.coe_mul]; norm_num
theorem lit_max1 : Ideal.ofBits .f32 0x41F80000#32 = ((31 : ℝ) : EReal) := by
  simp [Ideal.ofBits, Ideal.ieee, -EReal.coe_mul]; norm_num
theorem lit_nmax1 : Ideal.ofBits .f32 0xC1F80000#32 = ((-31 : ℝ) : EReal) := by
  simp [Ideal.ofBits, Ideal.ieee, -EReal.coe_mul]; norm_num
theorem lit_max2 : Ideal.ofBits .f32 0x47E00000#32 = ((114688 : ℝ) : EReal) := by
  simp [Ideal.ofBits, Ideal.ieee, -EReal.coe_mul]; norm_num
theorem lit_nmax2 : Ideal.ofBits .f32 0xC7E00000#32 = ((-114688 : ℝ) : EReal) := by
  simp [Ideal.ofBits, Ideal.ieee, -EReal.coe_mul]; norm_num
theorem lit_max3 : Ideal.ofBits .f32 0x4FC00000#32 = ((6442450944 : ℝ) : EReal) := by
  simp [Ideal.ofBits, Ideal.ieee, -EReal.coe_mul]; norm_num
theorem lit_nmax3 : Ideal.ofBits .f32 0xCFC00000#32 = ((-6442450944 : ℝ) : EReal) := by
  simp [Ideal.ofBits, Ideal.ieee, -EReal.coe_mul]; norm_num

/-! The smallest magnitudes of the four formats. -/

theorem lit_min0 : Ideal.ofBits .f32 0x3D000000#32 = (((2 : ℝ) ^ (-5 : ℤ) : ℝ) : EReal) := by
  simp [Ideal.ofBits, Ideal.ieee, -EReal.coe_mul]; norm_num
theorem lit_min1 : Ideal.ofBits .f32 0x3C800000#32 = (((2 : ℝ) ^ (-6 : ℤ) : ℝ) : EReal) := by
  simp [Ideal.ofBits, Ideal.ieee, -EReal.coe_mul]; norm_num
theorem lit_min2 : Ideal.ofBits .f32 0x37800000#32 = (((2 : ℝ) ^ (-16 : ℤ) : ℝ) : EReal) := by
  simp [Ideal.ofBits, Ideal.ieee, -EReal.coe_mul]; norm_num
theorem lit_min3 : Ideal.ofBits .f32 0x30000000#32 = (((2 : ℝ) ^ (-31 : ℤ) : ℝ) : EReal) := by
  simp [Ideal.ofBits, Ideal.ieee, -EReal.coe_mul]; norm_num

/-! The largest mantissas `1 - 1 / N` of the four formats. -/

theorem lit_top0 : Ideal.ofBits .f32 0x3F780000#32 = ((1 - 1 / 32 : ℝ) : EReal) := by
  simp [Ideal.ofBits, Ideal.ieee, -EReal.coe_mul, -EReal.coe_sub]; norm_num
theorem lit_top1 : Ideal.ofBits .f32 0x3F700000#32 = ((1 - 1 / 16 : ℝ) : EReal) := by
  simp [Ideal.ofBits, Ideal.ieee, -EReal.coe_mul, -EReal.coe_sub]; norm_num
theorem lit_top2 : Ideal.ofBits .f32 0x3F400000#32 = ((1 - 1 / 4 : ℝ) : EReal) := by
  simp [Ideal.ofBits, Ideal.ieee, -EReal.coe_mul, -EReal.coe_sub]; norm_num
theorem lit_top3 : Ideal.ofBits .f32 0x3F000000#32 = ((1 - 1 / 2 : ℝ) : EReal) := by
  simp [Ideal.ofBits, Ideal.ieee, -EReal.coe_mul, -EReal.coe_sub]; norm_num

end Quant
-- ==== Proof.QuantElem.lean ====
/- One element of the two quantising programs, spelled with the operations that the programs perform, and its value in
   the closed forms of `QuantMath`. -/
module

public import proofs.«01_k».proof.Proof.QuantMath
public import proofs.«01_k».proof.Proof.Consts
public import Idealize.ShloMosaic.PureOps
public import Idealize.ShloMosaic.PureOps.Ideal

@[expose] public section

noncomputable section

namespace Quant

open Idealize.ShloMosaic

/-- Two to the power of a 32-bit integer, read as signed. -/
def pow2 (w : BitVec 32) : EReal := Ideal.exp2 ((w.toInt : ℝ) : EReal)

/-- The number of a region's mantissa bits from the three comparisons `|g| > q`. -/
def bitsOf (q0 q1 q2 g : EReal) : BitVec 32 :=
  Scalar.select (Ideal.cmp .ogt (max g (-g)) q0)
    (Scalar.select (Ideal.cmp .ogt (max g (-g)) q1)
      (Scalar.select (Ideal.cmp .ogt (max g (-g)) q2) 1#32 2#32) 4#32) 5#32

/-- The shift count's power: `1 << (6 - w)`. -/
def halfRange (w : BitVec 32) : BitVec 32 := IntOp.shli .vector 1#32 (6#32 - w)

/-- The least biased exponent. -/
def expLo (w : BitVec 32) : BitVec 32 := 129#32 - halfRange w
/-- The greatest biased exponent. -/
def expHi (w : BitVec 32) : BitVec 32 := 127#32 + halfRange w

/-- The biased exponent of `a`, clamped. `c` stands for `1 / log 2`. -/
def expOf (c : EReal) (w : BitVec 32) (a : EReal) : BitVec 32 :=
  IntOp.minsi (expHi w) (IntOp.maxsi (expLo w)
    (Ideal.fptosi 32 (Ideal.liftRound Int.floor (Ideal.log a * c) + Ideal.ofBits .f32 0x42FE0000#32)))

/-- The kernel's element: `x` quantised with `w` mantissa bits. -/
def kElem (c : EReal) (w : BitVec 32) (x : EReal) : EReal :=
  Scalar.select (Ideal.cmp .olt (max x (-x)) (pow2 (expLo w - w - 127#32))) (Ideal.ofBits .f32 0x00000000#32)
    (pow2 (expOf c w (max (max x (-x)) (pow2 (expLo w - w - 127#32))) - 127#32)
        * (Ideal.ofBits .f32 0x3F800000#32
          + min (pow2 w - Ideal.ofBits .f32 0x3F800000#32)
              (max (Ideal.ofBits .f32 0x00000000#32)
                (Ideal.liftRound Ideal.roundHalfEven
                  ((max (max x (-x)) (pow2 (expLo w - w - 127#32))
                      * pow2 (127#32 - expOf c w (max (max x (-x)) (pow2 (expLo w - w - 127#32))))
                    - Ideal.ofBits .f32 0x3F800000#32) * pow2 w)))
            * pow2 (0#32 - w))
      * Scalar.select (Ideal.cmp .olt x (Ideal.ofBits .f32 0x00000000#32)) (Ideal.ofBits .f32 0xBF800000#32)
          (Ideal.ofBits .f32 0x3F800000#32))

theorem pow2_eq (w : BitVec 32) : pow2 w = (((2 : ℝ) ^ w.toInt : ℝ) : EReal) := by
  unfold pow2
  show (((Real.rpow 2 (w.toInt : ℝ)) : ℝ) : EReal) = _
  congr 1
  exact Real.rpow_intCast 2 w.toInt

theorem select_ofBool {α : Type} (p : Prop) [Decidable p] (a b : α) :
    Scalar.select (BitVec.ofBool (decide p)) a b = if p then a else b := by
  unfold Scalar.select
  by_cases h : p <;> simp [h]

theorem select_olt {α : Type} (x y : EReal) (a b : α) :
    Scalar.select (Ideal.cmp .olt x y) a b = if x < y then a else b := by
  classical
  exact select_ofBool (x < y) a b

theorem select_ogt {α : Type} (x y : EReal) (a b : α) :
    Scalar.select (Ideal.cmp .ogt x y) a b = if y < x then a else b := by
  classical
  exact select_ofBool (y < x) a b

theorem toInt_minsi (x y : BitVec 32) : (IntOp.minsi x y).toInt = min x.toInt y.toInt := by
  unfold IntOp.minsi
  by_cases h : x.slt y
  · rw [if_pos h, min_eq_left (le_of_lt (by simpa [BitVec.slt] using h))]
  · rw [if_neg h, min_eq_right (by simpa [BitVec.slt] using h)]

theorem toInt_maxsi (x y : BitVec 32) : (IntOp.maxsi x y).toInt = max x.toInt y.toInt := by
  unfold IntOp.maxsi
  by_cases h : y.slt x
  · rw [if_pos h, max_eq_left (le_of_lt (by simpa [BitVec.slt] using h))]
  · rw [if_neg h, max_eq_right (by simpa [BitVec.slt] using h)]

/-- A rounded and clamped number lies in the range that it is clamped to. -/
theorem toIntClamped_mem (x : EReal) :
    -(2 ^ 31) ≤ Ideal.toIntClamped (-(2 ^ 31)) (2 ^ 31 - 1) x
      ∧ Ideal.toIntClamped (-(2 ^ 31)) (2 ^ 31 - 1) x ≤ 2 ^ 31 - 1 := by
  unfold Ideal.toIntClamped
  split <;> omega

theorem toInt_fptosi (x : EReal) :
    (Ideal.fptosi 32 x).toInt = Ideal.toIntClamped (-(2 ^ 31)) (2 ^ 31 - 1) x := by
  have h := toIntClamped_mem x
  show (BitVec.ofInt 32 (Ideal.toIntClamped (-(2 ^ 31)) (2 ^ 31 - 1) x)).toInt = _
  rw [BitVec.toInt_ofInt]
  generalize Ideal.toIntClamped (-(2 ^ 31)) (2 ^ 31 - 1) x = z at h
  rw [Int.bmod_def]
  omega

/-- The exponent word's value, for a format of exponents `m` to `M`. -/
theorem toInt_expOf {w : BitVec 32} {m M : ℤ} (hlo : (expLo w).toInt = m + 127) (hhi : (expHi w).toInt = M + 127)
    (a : EReal) : (expOf (((Real.log 2)⁻¹ : ℝ) : EReal) w a).toInt = kExp m M a + 127 := by
  unfold expOf kExp
  rw [toInt_minsi, toInt_maxsi, toInt_fptosi, hlo, hhi, lit_127]
  omega

theorem kExp_mem {m M : ℤ} (h : m ≤ M) (a : EReal) : m ≤ kExp m M a ∧ kExp m M a ≤ M := by
  unfold kExp
  omega

/-- The kernel's element is the closed form, for a format described by the word `w`. -/
theorem kElem_eq {w : BitVec 32} {n m M : ℤ} (hw : w.toInt = n) (hnw : (0#32 - w).toInt = -n)
    (hlo : (expLo w).toInt = m + 127) (hhi : (expHi w).toInt = M + 127)
    (hmv : (expLo w - w - 127#32).toInt = m - n) (hm : -200 ≤ m) (hmM : m ≤ M) (hM : M ≤ 200) (x : EReal) :
    kElem (((Real.log 2)⁻¹ : ℝ) : EReal) w x = kForm ((2 : ℝ) ^ n) ((2 : ℝ) ^ (m - n)) m M x := by
  have he (a : EReal) : (expOf (((Real.log 2)⁻¹ : ℝ) : EReal) w a - 127#32).toInt = kExp m M a := by
    have h1 := toInt_expOf hlo hhi a
    have h2 := kExp_mem hmM a
    have h3 : (127#32 : BitVec 32).toInt = 127 := by decide
    rw [BitVec.toInt_sub, h1, h3, Int.bmod_def]
    omega
  have hf (a : EReal) : (127#32 - expOf (((Real.log 2)⁻¹ : ℝ) : EReal) w a).toInt = -kExp m M a := by
    have h1 := toInt_expOf hlo hhi a
    have h2 := kExp_mem hmM a
    have h3 : (127#32 : BitVec 32).toInt = 127 := by decide
    rw [BitVec.toInt_sub, h1, h3, Int.bmod_def]
    omega
  unfold kElem kForm kSteps
  simp only [pow2_eq, he, hf, hmv, hw, hnw, select_olt, lit_zero, lit_one, lit_neg_one, EReal.coe_zero, EReal.coe_one,
    EReal.coe_neg, zpow_neg]

/-- The reference's element, spelled with its operations: the least and the greatest value, the least magnitude, the
    exponent's bounds as words, the number of levels and the greatest mantissa. -/
def rElem (nmx mx mv : EReal) (lo hi : BitVec 32) (N top : EReal) (x : EReal) : EReal :=
  Scalar.select (Ideal.cmp .olt (max (min mx (max nmx x)) (-(min mx (max nmx x)))) mv) (Ideal.ofBits .f32 0x00000000#32)
    (Ideal.sign (min mx (max nmx x))
        * Ideal.exp (min ((hi.toInt : ℝ) : EReal) (max ((lo.toInt : ℝ) : EReal)
            (Ideal.liftRound Int.floor (Ideal.div (Ideal.log (max (max (min mx (max nmx x)) (-(min mx (max nmx x)))) mv))
              (Ideal.log (Ideal.ofBits .f32 0x40000000#32))))) * Ideal.log (Ideal.ofBits .f32 0x40000000#32))
      * (Ideal.ofBits .f32 0x3F800000#32 + min top (max (Ideal.ofBits .f32 0x00000000#32)
          (Ideal.div (Ideal.liftRound Ideal.roundHalfEven
            ((Ideal.div (max (max (min mx (max nmx x)) (-(min mx (max nmx x)))) mv)
                (Ideal.exp (min ((hi.toInt : ℝ) : EReal) (max ((lo.toInt : ℝ) : EReal)
                  (Ideal.liftRound Int.floor (Ideal.div (Ideal.log (max (max (min mx (max nmx x)) (-(min mx (max nmx x)))) mv))
                    (Ideal.log (Ideal.ofBits .f32 0x40000000#32))))) * Ideal.log (Ideal.ofBits .f32 0x40000000#32)))
              - Ideal.ofBits .f32 0x3F800000#32) * N)) N))))

/-- The logarithm of the literal 2. -/
theorem log_two : Ideal.log (Ideal.ofBits .f32 0x40000000#32) = ((Real.log 2 : ℝ) : EReal) := by
  rw [lit_two, Ideal.log_coe, if_neg (by norm_num)]

/-- The reference's element is the closed form. -/
theorem rElem_eq {lo hi : BitVec 32} {N mv mx : ℝ} {m M : ℤ} (hlo : lo.toInt = m) (hhi : hi.toInt = M) (x : EReal) :
    rElem ((-mx : ℝ) : EReal) (mx : EReal) (mv : EReal) lo hi (N : EReal) ((1 - 1 / N : ℝ) : EReal) x
      = rForm N mv mx m M x := by
  unfold rElem rForm rPow rMant clipTo
  simp only [select_olt, log_two, hlo, hhi, lit_zero, lit_one, EReal.coe_zero, EReal.coe_one]

/-! ## The region of an element, and the four formats -/

/-- The region of `g`: how many of the three quartiles `|g|` exceeds, as the reference counts it. -/
def regionOf (q0 q1 q2 g : EReal) : BitVec 32 :=
  ((Ideal.cmp .ogt (max g (-g)) q0).setWidth 32 + (Ideal.cmp .ogt (max g (-g)) q1).setWidth 32)
    + (Ideal.cmp .ogt (max g (-g)) q2).setWidth 32

/-- The reference's element: the four quantised values, and the region's one chosen. -/
def refElem (q0 q1 q2 g x : EReal) : EReal :=
  Scalar.select (IntOp.cmpi .eq (regionOf q0 q1 q2 g) 0#32)
    (rElem (Ideal.ofBits .f32 0xC0FC0000#32) (Ideal.ofBits .f32 0x40FC0000#32) (Ideal.ofBits .f32 0x3D000000#32) 0#32 2#32
      (Ideal.ofBits .f32 0x42000000#32) (Ideal.ofBits .f32 0x3F780000#32) x)
    (Scalar.select (IntOp.cmpi .eq (regionOf q0 q1 q2 g) 1#32)
      (rElem (Ideal.ofBits .f32 0xC1F80000#32) (Ideal.ofBits .f32 0x41F80000#32) (Ideal.ofBits .f32 0x3C800000#32)
        4294967294#32 4#32 (Ideal.ofBits .f32 0x41800000#32) (Ideal.ofBits .f32 0x3F700000#32) x)
      (Scalar.select (IntOp.cmpi .eq (regionOf q0 q1 q2 g) 2#32)
        (rElem (Ideal.ofBits .f32 0xC7E00000#32) (Ideal.ofBits .f32 0x47E00000#32) (Ideal.ofBits .f32 0x37800000#32)
          4294967282#32 16#32 (Ideal.ofBits .f32 0x40800000#32) (Ideal.ofBits .f32 0x3F400000#32) x)
        (rElem (Ideal.ofBits .f32 0xCFC00000#32) (Ideal.ofBits .f32 0x4FC00000#32) (Ideal.ofBits .f32 0x30000000#32)
          4294967266#32 32#32 (Ideal.ofBits .f32 0x40000000#32) (Ideal.ofBits .f32 0x3F000000#32) x)))

/-- One format: a word `w` of mantissa bits and the reference's literals that describe the same format give the same
    element. -/
theorem format_eq {w lo hi : BitVec 32} {n m M N : ℤ} {mv mx : ℝ} (hw : w.toInt = n) (hnw : (0#32 - w).toInt = -n)
    (hlo : (expLo w).toInt = m + 127) (hhi : (expHi w).toInt = M + 127)
    (hmv : (expLo w - w - 127#32).toInt = m - n) (hlo' : lo.toInt = m) (hhi' : hi.toInt = M)
    (hm : -200 ≤ m) (hmM : m ≤ M) (hM : M ≤ 200) (hN : 1 ≤ N) (hNn : (2 : ℝ) ^ n = N) (hmv' : (2 : ℝ) ^ (m - n) = mv)
    (hle : mv ≤ (2 : ℝ) ^ M) (hmx : mx = (2 : ℝ) ^ M * (2 - 1 / N)) (x : EReal) :
    kElem (((Real.log 2)⁻¹ : ℝ) : EReal) w x
      = rElem ((-mx : ℝ) : EReal) (mx : EReal) (mv : EReal) lo hi ((N : ℝ) : EReal) ((1 - 1 / N : ℝ) : EReal) x := by
  rw [kElem_eq hw hnw hlo hhi hmv hm hmM hM, rElem_eq hlo' hhi', hNn, hmv']
  exact kForm_eq_rForm hN (by omega) hmM (by omega) (by rw [← hmv']; positivity) hle hmx x

/-- The kernel's and the reference's element agree in region 0 (2 exponent bits, 5 mantissa bits). -/
theorem elem0 (x : EReal) : kElem (((Real.log 2)⁻¹ : ℝ) : EReal) 5#32 x
    = rElem (Ideal.ofBits .f32 0xC0FC0000#32) (Ideal.ofBits .f32 0x40FC0000#32) (Ideal.ofBits .f32 0x3D000000#32) 0#32 2#32
      (Ideal.ofBits .f32 0x42000000#32) (Ideal.ofBits .f32 0x3F780000#32) x := by
  rw [lit_max0, lit_nmax0, lit_min0, lit_32, lit_top0]
  have h := format_eq (w := 5#32) (lo := 0#32) (hi := 2#32) (n := 5) (m := 0) (M := 2) (N := 32) (by decide) (by decide) (by decide) (by decide)
    (by decide) (by decide) (by decide) (by norm_num) (by norm_num) (by norm_num) (by norm_num) (by norm_num) rfl (by norm_num)
    rfl x
  norm_num at h ⊢
  exact h

/-- The kernel's and the reference's element agree in region 1 (3 exponent bits, 4 mantissa bits). -/
theorem elem1 (x : EReal) : kElem (((Real.log 2)⁻¹ : ℝ) : EReal) 4#32 x
    = rElem (Ideal.ofBits .f32 0xC1F80000#32) (Ideal.ofBits .f32 0x41F80000#32) (Ideal.ofBits .f32 0x3C800000#32)
        4294967294#32 4#32 (Ideal.ofBits .f32 0x41800000#32) (Ideal.ofBits .f32 0x3F700000#32) x := by
  rw [lit_max1, lit_nmax1, lit_min1, lit_16, lit_top1]
  have h := format_eq (w := 4#32) (lo := 4294967294#32) (hi := 4#32) (n := 4) (m := -2) (M := 4) (N := 16) (by decide) (by decide) (by decide) (by decide)
    (by decide) (by decide) (by decide) (by norm_num) (by norm_num) (by norm_num) (by norm_num) (by norm_num) rfl (by norm_num)
    rfl x
  norm_num at h ⊢
  exact h

/-- The kernel's and the reference's element agree in region 2 (5 exponent bits, 2 mantissa bits). -/
theorem elem2 (x : EReal) : kElem (((Real.log 2)⁻¹ : ℝ) : EReal) 2#32 x
    = rElem (Ideal.ofBits .f32 0xC7E00000#32) (Ideal.ofBits .f32 0x47E00000#32) (Ideal.ofBits .f32 0x37800000#32)
          4294967282#32 16#32 (Ideal.ofBits .f32 0x40800000#32) (Ideal.ofBits .f32 0x3F400000#32) x := by
  rw [lit_max2, lit_nmax2, lit_min2, lit_4, lit_top2]
  have h := format_eq (w := 2#32) (lo := 4294967282#32) (hi := 16#32) (n := 2) (m := -14) (M := 16) (N := 4) (by decide) (by decide) (by decide) (by decide)
    (by decide) (by decide) (by decide) (by norm_num) (by norm_num) (by norm_num) (by norm_num) (by norm_num) rfl (by norm_num)
    rfl x
  norm_num at h ⊢
  exact h

/-- The kernel's and the reference's element agree in region 3 (6 exponent bits, 1 mantissa bit). -/
theorem elem3 (x : EReal) : kElem (((Real.log 2)⁻¹ : ℝ) : EReal) 1#32 x
    = rElem (Ideal.ofBits .f32 0xCFC00000#32) (Ideal.ofBits .f32 0x4FC00000#32) (Ideal.ofBits .f32 0x30000000#32)
          4294967266#32 32#32 (Ideal.ofBits .f32 0x40000000#32) (Ideal.ofBits .f32 0x3F000000#32) x := by
  rw [lit_max3, lit_nmax3, lit_min3, lit_two, lit_top3]
  have h := format_eq (w := 1#32) (lo := 4294967266#32) (hi := 32#32) (n := 1) (m := -30) (M := 32) (N := 2) (by decide) (by decide) (by decide) (by decide)
    (by decide) (by decide) (by decide) (by norm_num) (by norm_num) (by norm_num) (by norm_num) (by norm_num) rfl (by norm_num)
    rfl x
  norm_num at h ⊢
  exact h

/-- For quartiles in order, the kernel's element at the number of mantissa bits that the nested comparisons choose is the
    reference's element at the region that the comparisons' sum counts. -/
theorem kElem_eq_refElem {q0 q1 q2 : EReal} (h01 : q0 ≤ q1) (h12 : q1 ≤ q2) (g x : EReal) :
    kElem (((Real.log 2)⁻¹ : ℝ) : EReal) (bitsOf q0 q1 q2 g) x = refElem q0 q1 q2 g x := by
  classical
  unfold refElem
  rw [← elem0, ← elem1, ← elem2, ← elem3]
  have c (q : EReal) : Ideal.cmp .ogt (max g (-g)) q = if q < max g (-g) then 1#1 else 0#1 := by
    show BitVec.ofBool (decide (q < max g (-g))) = _
    by_cases h : q < max g (-g) <;> simp [h]
  unfold bitsOf regionOf
  simp only [c]
  by_cases h0 : q0 < max g (-g)
  · by_cases h1 : q1 < max g (-g)
    · by_cases h2 : q2 < max g (-g) <;> simp only [h0, h1, h2, if_true, if_false] <;> rfl
    · have h2 : ¬ q2 < max g (-g) := fun h => h1 (lt_of_le_of_lt h12 h)
      simp only [h0, h1, h2, if_true, if_false]
      rfl
  · have h1 : ¬ q1 < max g (-g) := fun h => h0 (lt_of_le_of_lt h01 h)
    have h2 : ¬ q2 < max g (-g) := fun h => h1 (lt_of_le_of_lt h12 h)
    simp only [h0, h1, h2, if_true, if_false]
    rfl

end Quant
-- ==== Proof.QuantKernel.lean ====
/- What the quantising kernel leaves in its result: at each index the kernel's element of `QuantElem`. -/
module

public import proofs.«01_k».proof.Proof.QuantElem
public import Idealize.ShloMosaic.PureOps.IdealRules
public import proofs.«01_k».proof.Proof.Gen.KernelIdeal.Value

@[expose] public section

set_option maxRecDepth 16384

noncomputable section

namespace Cert.KernelIdeal.Elem

open Cert.KernelIdeal Cert.KernelIdeal.Gen Idealize.ShloMosaic Idealize.ShloMosaic.TcCoe Idealize.SL.Sem Quant
open Idealize.ShloMosaic.Tactic

/-- The kernel's constant is the reciprocal of the natural logarithm of 2. -/
theorem inv_ln2 : (Named.named (F := Ideal) (φ := .f32) Cert.KernelIdeal.κ "inv_ln2" 0x3FB8AA3B#32 : EReal)
    = (((Real.log 2)⁻¹ : ℝ) : EReal) :=
  IdealRules.named_const.ideal_named_scalar _ _ _ _ rfl

/-- What the body stores, at an index of the block. -/
theorem pay_apply (v0 v1 v2 : Elt Ideal .f32) (v3 v4 : Vec Ideal S128x8192 .f32) (i : S128x8192.Idx) :
    k0_pay1 (F := Ideal) v3 (k0_pay3 v0 v1 v2 v4) (k0_pay4 v0 v1 v2 v4) (k0_pay5 v0 v1 v2 v4) (k0_pay7 v0 v1 v2 v4)
        (k0_pay8 v0 v1 v2 v4) (k0_pay9 v0 v1 v2 v4) (k0_pay10 v3) i
      = kElem (((Real.log 2)⁻¹ : ℝ) : EReal) (bitsOf v0 v1 v2 (v4 i)) (v3 i) := by
  rw [← inv_ln2]
  rfl

theorem hz : (![0, 0] : Fin 2 → Nat) = fun _ => 0 := by funext a; fin_cases a <;> rfl

variable (m : (ℓ : Loc nD τ sig) → Buf (Elt Ideal) ℓ)

/-- The `k`-th threshold's index. -/
def at8 (k : Fin 8) : S8.Idx := fun a => match a with | ⟨0, _⟩ => k

/-- Loading a whole block reads the block. -/
theorem ld_whole (X : Vec Ideal S128x8192 .f32) (inb) :
    View.ld X (Rect.unit (s := S128x8192) ![0, 0] ![128, 8192] inb) = X :=
  View.ld_unit_zero (S := S128x8192) hz inb X

/-- Loading one word of the thresholds reads that word. -/
theorem ld_word (X : Vec Ideal S8 .f32) (k : Fin 8) (inb) (h) :
    View.ld X (Rect.unit (s := S8) ![k.val] ![1] inb) (Shape.Idx.first h) = X (at8 k) :=
  congrArg X (funext fun a => Fin.ext (by
    fin_cases a
    show k.val + 1 * 0 = k.val
    omega))

/-- What a grid point leaves in its block, at an index. -/
theorem outs_apply (c : Dev nD) (t : Fin cfg0.N) (i : S128x8192.Idx) :
    outsAt0 m c t i = kElem (((Real.log 2)⁻¹ : ℝ) : EReal)
      (bitsOf (iblk m c 0 t (at8 0)) (iblk m c 0 t (at8 1)) (iblk m c 0 t (at8 2)) (iblk m c 2 t i)) (iblk m c 1 t i) := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  refine (congrFun (View.canon_unit_zero (S := S128x8192) hz _ _) i).trans ?_
  rw [pay_apply, ld_whole, ld_whole]
  exact congrArg (fun w => kElem _ w _) (congrFun (congr (congr (congrArg bitsOf (ld_word _ 0 _ _)) (ld_word _ 1 _ _))
    (ld_word _ 2 _ _)) _)

/-! ## The blocks -/

theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Where element `j` of block `t` lies in the array: row `128 t + j₀`, column `j₁`. -/
def place (t : Fin cfg0.N) (j : S128x8192.Idx) : S8192x8192.Idx := fun a => match a with
  | ⟨0, _⟩ => ⟨t.val * 128 + (j 0).val, by
      have h : t.val < 64 := lt_of_lt_of_eq t.isLt N_0
      have h0 : (j 0).val < 128 := (j 0).isLt
      show t.val * 128 + (j 0).val < 8192
      omega⟩
  | ⟨1, _⟩ => ⟨(j 1).val, (j 1).isLt⟩

theorem emb0 (t : Fin cfg0.N) (j : S8.Idx) : ((cfg0.win 0).blk t).view.emb j = j := by
  have e := idx0 t
  funext a; apply Fin.ext
  match a with
  | ⟨0, _⟩ => show win0_0.index t (0 : Fin 1) * 8 + 1 * (j 0).val = (j 0).val; omega

theorem emb1 (t : Fin cfg0.N) (j : S128x8192.Idx) : ((cfg0.win 1).blk t).view.emb j = place t j := by
  obtain ⟨e0, e1⟩ := idx1 t
  funext a; apply Fin.ext
  match a with
  | ⟨0, _⟩ => show win0_1.index t (0 : Fin 2) * 128 + 1 * (j 0).val = t.val * 128 + (j 0).val; omega
  | ⟨1, _⟩ => show win0_1.index t (1 : Fin 2) * 8192 + 1 * (j 1).val = (j 1).val; omega

theorem emb2 (t : Fin cfg0.N) (j : S128x8192.Idx) : ((cfg0.win 2).blk t).view.emb j = place t j := by
  obtain ⟨e0, e1⟩ := idx2 t
  funext a; apply Fin.ext
  match a with
  | ⟨0, _⟩ => show win0_2.index t (0 : Fin 2) * 128 + 1 * (j 0).val = t.val * 128 + (j 0).val; omega
  | ⟨1, _⟩ => show win0_2.index t (1 : Fin 2) * 8192 + 1 * (j 1).val = (j 1).val; omega

theorem emb3 (t : Fin cfg0.N) (j : S128x8192.Idx) : ((cfg0.win 3).blk t).view.emb j = place t j := by
  obtain ⟨e0, e1⟩ := idx3 t
  funext a; apply Fin.ext
  match a with
  | ⟨0, _⟩ => show win0_3.index t (0 : Fin 2) * 128 + 1 * (j 0).val = t.val * 128 + (j 0).val; omega
  | ⟨1, _⟩ => show win0_3.index t (1 : Fin 2) * 8192 + 1 * (j 1).val = (j 1).val; omega

/-- The result as one function of the thresholds `q`, the values `x` and the gradients `g`. -/
def quantised (q : Vec Ideal S8 .f32) (x g : Vec Ideal S8192x8192 .f32) : Vec Ideal S8192x8192 .f32 :=
  fun i => kElem (((Real.log 2)⁻¹ : ℝ) : EReal) (bitsOf (q (at8 0)) (q (at8 1)) (q (at8 2)) (g i)) (x i)

/-- What a grid point writes back is its block of `quantised`. -/
theorem flushed_eq (c : Dev nD) (t : Fin cfg0.N) :
    (dats m 0 c).flushed 3 t = ((cfg0.win 3).blk t).view.read (Elt Ideal)
      (quantised (V m c main_arg0) (V m c main_arg1) (V m c main_arg2)) := by
  rw [Value.flushed3]
  funext j
  show outsAt0 m c t j = quantised (V m c main_arg0) (V m c main_arg1) (V m c main_arg2) (((cfg0.win 3).blk t).view.emb j)
  rw [outs_apply, emb3]
  show kElem _ (bitsOf (V m c main_arg0 (((cfg0.win 0).blk t).view.emb (at8 0)))
      (V m c main_arg0 (((cfg0.win 0).blk t).view.emb (at8 1))) (V m c main_arg0 (((cfg0.win 0).blk t).view.emb (at8 2)))
      (V m c main_arg2 (((cfg0.win 2).blk t).view.emb j))) (V m c main_arg1 (((cfg0.win 1).blk t).view.emb j)) = _
  rw [emb0, emb0, emb0, emb1, emb2]
  rfl

/-- Every index of the result lies in some point's block. -/
theorem covered (i : S8192x8192.Idx) :
    ∃ t : Fin cfg0.N, (cfg0.win 3).flush t = true ∧ i ∈ ((cfg0.win 3).blk t).view.set := by
  have h0 : (i 0).val < 8192 := (i 0).isLt
  have ht : (i 0).val / 128 < cfg0.N := by rw [show cfg0.N = 64 from N_0]; omega
  refine ⟨⟨(i 0).val / 128, ht⟩, flush0_3 _, ?_⟩
  have e : place ⟨(i 0).val / 128, ht⟩ (fun a => match a with
      | ⟨0, _⟩ => ⟨(i 0).val % 128, Nat.mod_lt _ (by norm_num)⟩
      | ⟨1, _⟩ => ⟨(i 1).val, (i 1).isLt⟩) = i := by
    funext a; apply Fin.ext
    match a with
    | ⟨0, _⟩ => show (i 0).val / 128 * 128 + (i 0).val % 128 = (i 0).val; omega
    | ⟨1, _⟩ => rfl
  have h := ((cfg0.win 3).blk ⟨(i 0).val / 128, ht⟩).view.emb_mem_set (fun a => match a with
      | ⟨0, _⟩ => ⟨(i 0).val % 128, Nat.mod_lt _ (by norm_num)⟩
      | ⟨1, _⟩ => ⟨(i 1).val, (i 1).isLt⟩)
  exact (congrArg (· ∈ _) ((emb3 _ _).trans e)).mp h

/-- The kernel's run, its result named. -/
theorem run (ρ : Dev nD → PrngReg) : θ_run defs (onTc (τ := τ) (main (F := Ideal))) ⟨m, fun _ => 0, ρ⟩ fun r => ∀ c : Dev nD,
      r.2.mem ((c : Thread nD τ).loc main_v0) = quantised (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 3 (quantised (V m c main_arg0) (V m c main_arg1) (V m c main_arg2))
        (fun t _ => flushed_eq m c t) covered), (h c).2⟩) (Value.run_blocks m ρ)

end Cert.KernelIdeal.Elem
-- ==== Proof.QuantReference.lean ====
/- The reference's result at an index: the reference's element of `QuantElem`, at the three thresholds, the gradient and
   the value there. -/
module

public import proofs.«01_k».proof.Proof.QuantElem
public import proofs.«01_k».proof.Proof.Gen.ReferenceIdeal.Read

@[expose] public section

set_option maxRecDepth 16384

noncomputable section

namespace Cert.ReferenceIdeal.Elem

open Cert.ReferenceIdeal Cert.ReferenceIdeal.Gen Cert.ReferenceIdeal.Read Idealize.ShloMosaic Quant

/-- The `k`-th threshold's index. -/
def at8 (k : Fin 8) : S8.Idx := fun a => match a with | ⟨0, _⟩ => k

/-- The one index of a vector of length 1. -/
def idx1 : S1.Idx := fun a => match a with | ⟨0, _⟩ => (0 : Fin 1)

theorem rowMajor_zero (j : S_.Idx) : (S1.rowMajor idx1).val = (S_.rowMajor j).val := by
  have h : (S_.rowMajor j).val < 1 := lt_of_lt_of_eq (S_.rowMajor j).isLt (by decide)
  have h' : (S1.rowMajor idx1).val < 1 := lt_of_lt_of_eq (S1.rowMajor idx1).isLt (by decide)
  omega

theorem thr0 (x0 : (⟨S8, .f32⟩ : BufTy).Contents (Elt Ideal)) (j : S_.Idx) : val_main_v1 (F := Ideal) x0 j = x0 (at8 0) := by
  unfold val_main_v1
  rw [shapeCast_apply (val_main_v0 (F := Ideal) x0) _ j idx1 (rowMajor_zero j), val_main_v0_apply]
  exact congrArg x0 (funext fun a => by fin_cases a; rfl)

theorem thr1 (x0 : (⟨S8, .f32⟩ : BufTy).Contents (Elt Ideal)) (j : S_.Idx) : val_main_v3 (F := Ideal) x0 j = x0 (at8 1) := by
  unfold val_main_v3
  rw [shapeCast_apply (val_main_v2 (F := Ideal) x0) _ j idx1 (rowMajor_zero j), val_main_v2_apply]
  exact congrArg x0 (funext fun a => by fin_cases a; rfl)

theorem thr2 (x0 : (⟨S8, .f32⟩ : BufTy).Contents (Elt Ideal)) (j : S_.Idx) : val_main_v5 (F := Ideal) x0 j = x0 (at8 2) := by
  unfold val_main_v5
  rw [shapeCast_apply (val_main_v4 (F := Ideal) x0) _ j idx1 (rowMajor_zero j), val_main_v4_apply]
  exact congrArg x0 (funext fun a => by fin_cases a; rfl)

variable (x0 : (⟨S8, .f32⟩ : BufTy).Contents (Elt Ideal)) (x1 x2 : (⟨S8192x8192, .f32⟩ : BufTy).Contents (Elt Ideal))
  (i : S8192x8192.Idx)

/-- The region at an index. -/
theorem region_apply : val_main_v17 (F := Ideal) x0 x2 i = regionOf (x0 (at8 0)) (x0 (at8 1)) (x0 (at8 2)) (x2 i) := by
  rw [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, thr0, thr1, thr2]
  rfl

theorem quant0 : val_main_v49 (F := Ideal) x1 i
    = rElem (Ideal.ofBits .f32 0xC0FC0000#32) (Ideal.ofBits .f32 0x40FC0000#32) (Ideal.ofBits .f32 0x3D000000#32) 0#32 2#32
      (Ideal.ofBits .f32 0x42000000#32) (Ideal.ofBits .f32 0x3F780000#32) (x1 i) := rfl

theorem quant1 : val_main_v81 (F := Ideal) x1 i
    = rElem (Ideal.ofBits .f32 0xC1F80000#32) (Ideal.ofBits .f32 0x41F80000#32) (Ideal.ofBits .f32 0x3C800000#32)
        4294967294#32 4#32 (Ideal.ofBits .f32 0x41800000#32) (Ideal.ofBits .f32 0x3F700000#32) (x1 i) := rfl

theorem quant2 : val_main_v113 (F := Ideal) x1 i
    = rElem (Ideal.ofBits .f32 0xC7E00000#32) (Ideal.ofBits .f32 0x47E00000#32) (Ideal.ofBits .f32 0x37800000#32)
          4294967282#32 16#32 (Ideal.ofBits .f32 0x40800000#32) (Ideal.ofBits .f32 0x3F400000#32) (x1 i) := rfl

theorem quant3 : val_main_v145 (F := Ideal) x1 i
    = rElem (Ideal.ofBits .f32 0xCFC00000#32) (Ideal.ofBits .f32 0x4FC00000#32) (Ideal.ofBits .f32 0x30000000#32)
          4294967266#32 32#32 (Ideal.ofBits .f32 0x40000000#32) (Ideal.ofBits .f32 0x3F000000#32) (x1 i) := rfl

/-- The reference's result at an index. -/
theorem result_apply : val_main_v154 (F := Ideal) x0 x1 x2 i
    = refElem (x0 (at8 0)) (x0 (at8 1)) (x0 (at8 2)) (x2 i) (x1 i) := by
  rw [val_main_v154_apply, val_main_v153_apply, val_main_v152_apply, val_main_v151_apply, val_main_v149_apply,
    val_main_v147_apply, val_main_v150_apply, val_main_v148_apply, val_main_v146_apply, region_apply, quant0, quant1,
    quant2, quant3]
  rfl

end Cert.ReferenceIdeal.Elem
-- ==== Proof.QuantClaim.lean ====
/- The claims about the quantising call, each from what the other modules prove: the two runs (`QuantKernel`, the
   reference's generated run read by `QuantReference`), and the equality of the two results at one element
   (`QuantElem`). -/
module

public import proofs.«01_k».proof.Defs
public import proofs.«01_k».proof.Proof.QuantElem
public import proofs.«01_k».proof.Proof.QuantKernel
public import proofs.«01_k».proof.Proof.QuantReference
public import proofs.«01_k».proof.Proof.Gen.Kernel.Frame
public import proofs.«01_k».proof.Proof.Gen.KernelIdeal.Frame
public import Idealize.ShloMosaic.PureOps.IdealRules

@[expose] public section

noncomputable section

namespace Cert.Proof.Quant

open Idealize.ShloMosaic Idealize.ShloMosaic.StableHlo Idealize.SL.Sem

/-- The precondition's two slices lie inside the eight thresholds. -/
instance facts_pre : Cert.Pre_quartiles_in_order.Facts := ⟨by decide, by decide⟩

/-- The kernel runs without fault at the machine's floats, keeps its arguments and leaves every counter at zero. -/
theorem frame_kernel : Cert.quiescent_Kernel := fun m ρ _ => Cert.Kernel.Gen.frame m ρ
/-- So does its ideal reading, -/
theorem frame_ideal : Cert.quiescent_KernelIdeal := fun m ρ _ => Cert.KernelIdeal.Gen.frame m ρ
/-- in particular where the thresholds are in order. -/
theorem frame_ideal_pre : Cert.quiescent_KernelIdeal_pre_quartiles_in_order :=
  fun m ρ _ => Cert.KernelIdeal.Gen.frame m ρ
/-- The reference runs, keeps its arguments, and declares no semaphore; -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- in particular where the thresholds are in order. -/
theorem frame_reference_pre : Cert.quiescent_ReferenceIdeal_pre_quartiles_in_order :=
  fun m ρ _ => frame_reference m ρ trivial

/-- The ideal kernel is the kernel: 1/ln 2 named, and 1.0 with x's sign bit read as a choice by x's sign. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.sign_bit.statement Cert.KernelIdeal.S128x8192 .f32⟩

/-- A `≤` comparison that says yes. -/
theorem le_of_cmp {x y : EReal} (h : Ideal.cmp .ole x y = 1#1) : x ≤ y := by
  by_contra hn
  have : Ideal.cmp .ole x y = 0#1 := by simp [Ideal.cmp, hn]
  rw [this] at h
  exact absurd h (by decide)

open Cert.ReferenceIdeal.Elem (at8)

/-- The precondition, read: the first three thresholds are in order. -/
theorem in_order (q : FVec Ideal Cert.KernelIdeal.S8 .f32) (x g : FVec Ideal Cert.KernelIdeal.S8192x8192 .f32)
    (h : Cert.Pre_quartiles_in_order.fn (F := Ideal) q x g = fun _ => 1#1) :
    q (at8 0) ≤ q (at8 1) ∧ q (at8 1) ≤ q (at8 2) := by
  have at_ (k : Fin 2) := congrFun h ((fun a => match a with | ⟨0, _⟩ => (k : Fin 2)) : Cert.Pre_quartiles_in_order.S2.Idx)
  have e (I J : Cert.KernelIdeal.S8.Idx) (hij : (I 0).val = (J 0).val) : q I = q J := by
    congr 1
    funext a
    obtain rfl : a = 0 := Subsingleton.elim _ _
    exact Fin.ext hij
  refine ⟨le_of_cmp ?_, le_of_cmp ?_⟩
  · refine Eq.trans ?_ (at_ 0)
    exact congrArg₂ (Ideal.cmp .ole) (e _ _ rfl) (e _ _ rfl)
  · refine Eq.trans ?_ (at_ 1)
    exact congrArg₂ (Ideal.cmp .ole) (e _ _ rfl) (e _ _ rfl)

/-- Kernel and reference end with the same array of quantised values, wherever the thresholds are in order. -/
theorem algebraic : Cert.algebraic_KernelIdeal_ReferenceIdeal_pre_quartiles_in_order := by
  intro m ρ m' ρ' hpre hagree
  refine ⟨fun c => Cert.KernelIdeal.Elem.quantised (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Elem.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v154_eq (launchContents m' c))).trans ?_
  rw [launchContents_devRef, launchContents_devRef, launchContents_devRef, (hagree c).1, (hagree c).2.1, (hagree c).2.2]
  obtain ⟨h01, h12⟩ := in_order _ _ _ (hpre c)
  funext i
  exact (Cert.ReferenceIdeal.Elem.result_apply _ _ _ i).trans (_root_.Quant.kElem_eq_refElem h01 h12 _ _).symm

end Cert.Proof.Quant
-- ==== Proof.WholeIdealRun.Cases.lean ====
/-
  The first call of the whole program: its body run once per case of its two conditionals (first point, middle points, last point).
-/
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.WholeIdeal.Ladder

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The buffers of core `c` as the first call finds them: as launched. -/
abbrev V (c : Dev nD) (b : Ref sig .tc) : Buf (Elt F) ((c : Thread nD τ).loc b) := m ((c : Thread nD τ).loc b)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x8 .f32 := (Memref.whole cc0_stg1_0 : Memref sig .tc .vmem S1x8 .f32).view
/-- Each window's current staging memref at point `t`, spelled as the pipeline passes it (`bodyAt0`), and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S12x16x8192 .f32 := Memref.whole cc0_scratch0
/-- The scratch `arg3` the kernel carries between points, as a view: what it holds is stated through it. -/
abbrev VS0_0 : View sig .tc .vmem S12x16x8192 .f32 := scM0_0.view

/-- The buffers of the second call's own, which the first call never touches: each whole at something. -/
def others (c : Dev nD) : sProp 𝕄 :=
  iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg0_0), ((c : Thread nD τ).loc cc1_stg0_0) ↦{fullShare} f))

/-- The invariant before the first point: the scratch at something, the second call's buffers, the generator register. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA others; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : cond0_0 i) (hc1 : ¬cond0_1 i)
    (x0 : Vec F S512x8192 .f32) :
    Σ' (L1 : List (View.Piece (Elt F) S1x8 .f32)), { LS0 : List (View.Piece (Elt F) S12x16x8192 .f32) //
      ∀ (xi1 : Vec F S1x8 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_ladder_counts i arg1 harg1 arg2 harg2 arg3 harg3) K } := by
  refine ⟨[], ?_, fun xi1 E K => ?run⟩
  case run =>
    simp only [cc0_ladder_counts_eq_skeleton]; unfold cc0_ladder_counts_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : ¬cond0_1 i)
    (x0 : Vec F S512x8192 .f32) (xs0 : Vec F S12x16x8192 .f32) :
    Σ' (L1 : List (View.Piece (Elt F) S1x8 .f32)), { LS0 : List (View.Piece (Elt F) S12x16x8192 .f32) //
      ∀ (xi1 : Vec F S1x8 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_ladder_counts i arg1 harg1 arg2 harg2 arg3 harg3) K } := by
  refine ⟨[], ?_, fun xi1 E K => ?run⟩
  case run =>
    simp only [cc0_ladder_counts_eq_skeleton]; unfold cc0_ladder_counts_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : cond0_1 i)
    (x0 : Vec F S512x8192 .f32) (xs0 : Vec F S12x16x8192 .f32) :
    Σ' (L1 : List (View.Piece (Elt F) S1x8 .f32)), { LS0 : List (View.Piece (Elt F) S12x16x8192 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_ladder_counts i arg1 harg1 arg2 harg2 arg3 harg3) K } := by
  refine ⟨?_, ?_, fun E K => ?run⟩
  case run =>
    simp only [cc0_ladder_counts_eq_skeleton]; unfold cc0_ladder_counts_skel
    simp only [k0_part5_eq_skeleton, k0_part6_eq_skeleton, k0_part7_eq_skeleton, k0_part8_eq_skeleton, k0_part9_eq_skeleton, k0_part10_eq_skeleton, k0_part11_eq_skeleton, k0_part1_eq_skeleton, k0_part2_eq_skeleton, k0_part3_eq_skeleton, k0_part4_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.WholeIdeal.Ladder

end
-- ==== Proof.WholeIdealRun.Body.lean ====
/-
  The first call of the whole program: what its scratch and its output hold after each point, and its body at any point.
-/
module

public import proofs.«01_k».proof.Proof.WholeIdealRun.Cases

@[expose] public section

set_option maxRecDepth 16384

noncomputable section

namespace Cert.WholeIdeal.Ladder

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : cond0_0 i) (hc1 : ¬cond0_1 i)
    (x0 : Vec F S512x8192 .f32) : Vec F S1x8 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: one of them a store of the WHOLE buffer (Lib/Ring.lean `sl_whole_mem`). -/
theorem scover0_A_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : cond0_0 i) (hc1 : ¬cond0_1 i)
    (x0 : Vec F S512x8192 .f32) (y : S12x16x8192.Idx) :
    ∃ pc ∈ (kernelRun0_A c i arg1 harg1 arg2 harg2 arg3 harg3 hc0 hc1 x0).2.1, y ∈ pc.1.set :=
  View.cover_of_wholeMem (kernelRun0_A c i arg1 harg1 arg2 harg2 arg3 harg3 hc0 hc1 x0).2.1 (by sl_whole_mem) y

/-- What case A leaves in scratch `arg3`: its pieces read back over junk. -/
def sout0_A_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : cond0_0 i) (hc1 : ¬cond0_1 i)
    (x0 : Vec F S512x8192 .f32) : Vec F S12x16x8192 .f32 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : ¬cond0_1 i)
    (x0 : Vec F S512x8192 .f32) (xs0 : Vec F S12x16x8192 .f32) : Vec F S1x8 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 12 pieces of `S1x16x8192` tiling it (Lib/Ring.lean `Piece.tiledL`). -/
theorem scover0_B_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : ¬cond0_1 i)
    (x0 : Vec F S512x8192 .f32) (xs0 : Vec F S12x16x8192 .f32) (y : S12x16x8192.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x16x8192.size (by sl_kernel_rfl) y

/-- What case B leaves in scratch `arg3`: its pieces read back over junk. -/
def sout0_B_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : ¬cond0_1 i)
    (x0 : Vec F S512x8192 .f32) (xs0 : Vec F S12x16x8192 .f32) : Vec F S12x16x8192 .f32 :=
  VS0_0.read (Elt F) (VS0_0.writes (Elt F) VS0_0.junk (kernelRun0_B c i arg1 harg1 arg2 harg2 arg3 harg3 hc0 hc1 x0 xs0).2.1)

/-- Case C's pieces for output 1 tile its block (1 store of `S1x8`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : cond0_1 i)
    (x0 : Vec F S512x8192 .f32) (xs0 : Vec F S12x16x8192 .f32) (y : S1x8.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x8.size (by sl_kernel_rfl) y

/-- What case C leaves in output 1's staging buffer: its pieces read back over junk. -/
def out0_C_1 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : cond0_1 i)
    (x0 : Vec F S512x8192 .f32) (xs0 : Vec F S12x16x8192 .f32) : Vec F S1x8 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 12 pieces of `S1x16x8192` tiling it (Lib/Ring.lean `Piece.tiledL`). -/
theorem scover0_C_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : cond0_1 i)
    (x0 : Vec F S512x8192 .f32) (xs0 : Vec F S12x16x8192 .f32) (y : S12x16x8192.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x16x8192.size (by sl_kernel_rfl) y

/-- What case C leaves in scratch `arg3`: its pieces read back over junk. -/
def sout0_C_0 (c : Dev nD) (i : grid0.Coords) (arg1 : Memref sig .tc .vmem S512x8192 .f32) (harg1 : arg1.IsWhole) (arg2 : Memref sig .tc .vmem S1x8 .f32) (harg2 : arg2.IsWhole) (arg3 : Memref sig .tc .vmem S12x16x8192 .f32) (harg3 : arg3.IsWhole) (hc0 : ¬cond0_0 i) (hc1 : cond0_1 i)
    (x0 : Vec F S512x8192 .f32) (xs0 : Vec F S12x16x8192 .f32) : Vec F S12x16x8192 .f32 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x8 .f32 × Vec F S12x16x8192 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 16 = 15 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ others (F := F) c) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ others (F := F) c) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ others (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat m c).A w = V m c (Pipeline.arrRef spec0 w) := by
  dsimp only [dat]

/-- The invariant at a point's start (the proof data at `t.castSucc`), restated at `t.val`. -/
theorem PhiS_castSucc (c : Dev nD) (t : Fin cfg0.N) :
    (dat m c).Φ t.castSucc = PhiS m c t.val (Nat.le_of_lt t.isLt) := by
  dsimp only [dat]; exact Pipeline.Dat.Φ_castSucc (PhiS m c) t

/-- What the body leaves, window by window (the proof data's `match` reduced by `dsimp`). -/
theorem after0_0 (c : Dev nD) (t : Fin cfg0.N) : (dat m c).after 0 t = iblk m c 0 t := by dsimp only [dat]
theorem after0_1 (c : Dev nD) (t : Fin cfg0.N) : (dat m c).after 1 t = (outsAt0 m c t.val t.isLt).1 := by dsimp only [dat]

/-- Each input's current staging buffer holds its block at every point, fetched there or not (`beforeK_W_of`). -/
theorem before0_0 (c : Dev nD) (t : Fin cfg0.N) (d) : (dat m c).before 0 t d = iblk m c 0 t :=
  before0_0_of m (dat m c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dat m c).owesAt () t.succ = (dat m c).owesAt () t.castSucc from rfl]
  rw [show (dat m c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dat m c).leavesExact 0 t = owns (c : Thread nD τ) (ms0_0 t) fullShare ((dat m c).after 0 t) from by
      unfold Dat.leavesExact; rw [liveAt0_0 t], after0_0]
      rw [Dat.leavesExact_idle (dat m c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, Hx⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hx Hg]
        · isplitl [HS0 Hx]
          · isplitl [HS0]
            · unfold owns; iexists _; isplitr
              swap; · iexact HS0
              ipureintro; exact View.read_writes_of_cover _ _ _ _ _ (scover0_A_0 c _ _ _ _ _ _ _ _ _ _)
            iexact Hx
          iexact Hg
        isplitl [Ho]; · iexact Ho
        isplitl [H0]; · iexact H0
        iexists _; iexact H1
      · exfalso; have hN : t.val < 16 := lt_of_lt_of_eq t.isLt (show cfg0.N = 16 from N_0); omega
  · by_cases h1 : t.val % 16 = 15
    · rw [show (dat m c).leavesExact 0 t = owns (c : Thread nD τ) (ms0_0 t) fullShare ((dat m c).after 0 t) from by
      unfold Dat.leavesExact; rw [liveAt0_0 t], after0_0]
      rw [show (dat m c).leavesExact 1 t = owns (c : Thread nD τ) (ms0_1 t) fullShare ((dat m c).after 1 t) from by
      unfold Dat.leavesExact; rw [liveAt0_1_C t (fun h => h0 ((hcond0_0 t).mp h)) ((hcond0_1 t).mpr h1)], after0_1]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_1 sout0_C_0; (try dsimp only)
        iintro ⟨⟨⟨HS0, Hx⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hx Hg]
        · isplitl [HS0 Hx]
          · isplitl [HS0]
            · unfold owns; iexists _; isplitr
              swap; · iexact HS0
              ipureintro; exact View.read_writes_of_cover _ _ _ _ _ (scover0_C_0 c _ _ _ _ _ _ _ _ _ _ _)
            iexact Hx
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat m c).leavesExact 0 t = owns (c : Thread nD τ) (ms0_0 t) fullShare ((dat m c).after 0 t) from by
      unfold Dat.leavesExact; rw [liveAt0_0 t], after0_0]
      rw [Dat.leavesExact_idle (dat m c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_0; (try dsimp only)
        iintro ⟨⟨⟨HS0, Hx⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hx Hg]
        · isplitl [HS0 Hx]
          · isplitl [HS0]
            · unfold owns; iexists _; isplitr
              swap; · iexact HS0
              ipureintro; exact View.read_writes_of_cover _ _ _ _ _ (scover0_B_0 c _ _ _ _ _ _ _ _ _ _ _)
            iexact Hx
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat m c).Φ t ⊢ Pipeline.ΦA spec0 c := by
  rw [show (dat m c).Φ t = PhiS m c t.val (Nat.le_of_lt_succ t.isLt) from rfl, PhiS_pos m c _ _ ht, PhiA0_eq]
  iintro ⟨⟨HS0, Hx⟩, Hg⟩
  isplitl [HS0 Hx]
  · isplitl [HS0]
    · iexists _; iexact HS0
    iexact Hx
  iexact Hg

/-- The same after the last point. -/
theorem hout (c : Dev nD) : (dat m c).Φ (Fin.last cfg0.N) ⊢ Pipeline.ΦA spec0 c :=
  Phi_out m c _ (by rw [Fin.val_last]; have : cfg0.N = 16 := N_0; omega)

end Cert.WholeIdeal.Ladder

end
-- ==== Proof.WholeIdealRun.Launch.lean ====
/-
  The whole program: the two calls and the reshape between them, run one after the other.
-/
module

public import proofs.«01_k».proof.Proof.WholeIdealRun.Body
public import proofs.«01_k».proof.Proof.Gen.Own.WholeIdeal.RegionsD
public import Idealize.ShloMosaic.Lib.Pipeline.RegionArraysS
public import Idealize.ShloMosaic.Lib.Pipeline.Kit

@[expose] public section

noncomputable section

namespace Cert.WholeIdeal.Both

open Cert.WholeIdeal Cert.WholeIdeal.Gen Cert.WholeIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the first call leaves in each buffer, every other item leaving it as launched. -/
def outs₁ : Outs (F := F) := fun J r c =>
  match J with
  | 1 => Pipeline.afterRegion (Ladder.dat m c) (V0 m c) (Proc.devRef .tc r)
  | _ => m ((c : Thread nD τ).loc r)

/-- The second call's data, over what the first call and the reshape left. -/
abbrev quantDat (c : Dev nD) : Dat τ (Elt F) Unit ℕ (UR sig nD τ) ℕ cfg1 c :=
  K1.dat Variants.none (Ve1 m (outs₁ m)) (fun _ => 0) c

/-- What each call leaves in each buffer. -/
def outs : Outs (F := F) := fun J r c =>
  match J with
  | 1 => Pipeline.afterRegion (Ladder.dat m c) (V0 m c) (Proc.devRef .tc r)
  | 3 => Pipeline.afterRegion (quantDat m c) (V2 m (outs₁ m) c) (Proc.devRef .tc r)
  | _ => m ((c : Thread nD τ).loc r)

/-- The data of the two calls. -/
def pd : (p : Fin 2) → (c : Dev nD) → Dat τ (Elt F) Unit ℕ (UR sig nD τ) ℕ (cfgs p) c
  | ⟨0, _⟩ => fun c => Ladder.dat m c
  | ⟨1, _⟩ => fun c => quantDat m c

/-- The same with the second call's data as the library places it. -/
abbrev pds := pdatsD (U := UR sig nD τ) (Lvl := ℕ) m (outs m) Variants.none (pd m) (fun _ => 0)

/-- The first call leaves the estimates in `main_v0`. -/
theorem outs_counts (c : Dev nD) : outs m 1 main_v0 c = (Ladder.dat m c).arrAt 1 cfg0.N :=
  Pipeline.afterRegion_arr (Ladder.dat m c) (V0 m c) launch0.win.arr_inj 1

/-- The second call leaves the result in `main_v2`. -/
theorem outs_quant (c : Dev nD) : outs m 3 main_v2 c = (quantDat m c).arrAt 3 cfg1.N :=
  Pipeline.afterRegion_arr (quantDat m c) (V2 m (outs₁ m) c) launch1.win.arr_inj 3

/-- Every wait's index is allowed on a TensorCore's semaphores. -/
abbrev L : GSem nD τ sig → Finset Unit := fun g => if g.1.2 = .tc then {()} else ∅
/-- All waits are on one level. -/
abbrev lv : GSem nD τ sig → Unit → ℕ := fun _ _ => 0

theorem cut (p : Fin 2) : Pipeline.LevelCut (pcfgs (F := F)) adm () L lv p (fun _ => 0) (fun _ => 0) where
  hι c w s := by simp [L]
  hιb c w s := Nat.le_refl _
  hD c g i h := absurd h (by simp)

/-- What rides beside the buffers: the generator register and an empty tally. -/
abbrev E (_ : Fin 3) (c : Dev nD) : sProp 𝕄 :=
  iprop((∃ r, prngReg c r) ∗ ∃ W, owes (c : Thread nD τ) (0 : CellTallies nD τ sig Unit) W)

/-! ## The first call as a segment of the run -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

theorem arr0_S : Pipeline.arrRefs (τ := τ) spec0 ⊆ Pipeline.ucRefs τ sig :=
  Pipeline.arrRefs_sub_ucRefs spec0 (by decide)

theorem V1_at (c : Dev nD) : V1 m (outs m) c (Proc.devRef .tc main_v0) = outs m 1 main_v0 c := by
  simp only [V1, Function.update_self]

/-- The first call changes no held buffer but its arrays. -/
theorem rest0_eq (c : Dev nD) : ∀ b ∈ (Pipeline.ucRefs τ sig) \ Pipeline.arrRefs (τ := τ) spec0, V1 m (outs m) c b = V0 m c b := fun b hb => by
  have hn : b ∉ Pipeline.arrRefs (τ := τ) spec0 := (Finset.mem_sdiff.mp hb).2
  have h : b ≠ Proc.devRef .tc main_v0 := by rintro rfl; exact hn (arr0_mem 1)
  simp only [V1, Function.update_of_ne h]

set_option backward.isDefEq.respectTransparency.types false in
/-- The first call: entered from the arrays as launched, left with the estimates written. -/
def R0 : RegionSeg (pcfgs (F := F)) adm (pds m) () defs₀ Variants.none L lv 0 :=
  Pipeline.RegionSeg.ofHeld (pcfgs (F := F)) adm (pds m) () defs₀ Variants.none L lv 0 (fun _ => 0)
    (fun c => iprop(∃ r, prngReg c r)) (fun c => iprop(∃ r, prngReg c r))
    launch0.toP rfl
    (fun c => (Ladder.body_obligation m c).loose) (fun _ _ => rfl) (fun _ => rfl)
    (fun c => (Ladder.dat m c).share_full fun _ => rfl) (fun c => Ladder.hin m c) (fun c => Ladder.hout m c) (fun _ => 0) (cut 0)
    (fun c => StableHlo.held (c : Thread nD τ) ((Pipeline.ucRefs τ sig) \ Pipeline.arrRefs (τ := τ) spec0) (V0 m c))
    (V0 m) (V1 m (outs m)) (fun _ _ => rfl)
    (fun c => fun
      | 0 => ((Ladder.dat m c).arrAt_in 0 rfl _).trans ((Ladder.A_eq m c 0).trans (V1_of m (outs m) c (Pipeline.arrRef spec0 0) (by decide)).symm)
      | 1 => (outs_counts m c).symm.trans (V1_at m c).symm
      | ⟨_ + 2, h⟩ => absurd h (Nat.not_lt.2 (Nat.le_add_left _ _)))

theorem hpre0 (c : Dev nD) :
    iprop(StableHlo.held (c : Thread nD τ) (Pipeline.ucRefs τ sig) (V0 m c) ∗ E 0 c) ⊢ (R0 m).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) :
    (R0 m).post c ⊢ iprop(StableHlo.held (c : Thread nD τ) (Pipeline.ucRefs τ sig) (V1 m (outs m) c) ∗ E 1 c) := by
  show iprop(StableHlo.held (c : Thread nD τ) (Pipeline.arrRefs (τ := τ) spec0) (V1 m (outs m) c) ∗ (∃ r, prngReg c r)
    ∗ StableHlo.held (c : Thread nD τ) ((Pipeline.ucRefs τ sig) \ Pipeline.arrRefs (τ := τ) spec0) (V0 m c) ∗ ∃ W, owes (c : Thread nD τ) (0 : CellTallies nD τ sig Unit) W) ⊢ _
  rw [StableHlo.held_sub_split (c : Thread nD τ) arr0_S (V1 m (outs m) c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

/-! ## The run -/

/-- The second call, over what the first call and the reshape left. -/
abbrev R1 := R1D m (outs m) Variants.none L lv () (pd m) (fun _ => 0) (fun _ => 0) (cut 1) (fun _ => iprop(emp)) (outs_quant m)

set_option backward.isDefEq.respectTransparency.types false in
/-- Every weakly fair run of the whole program ends, faultless, with the result that the second call's data name, the
    arguments as launched and every semaphore counter at zero. -/
theorem run : θ_run defs (onTc (τ := τ) (main (F := F))) ⟨m, fun _ => 0, ρ⟩ (fun r => (∀ c : Dev nD,
      r.2.mem ((c.tc : Thread nD τ).loc main_v2) = (quantDat m c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pds m) () cellOf_inj emb₁ defs₀ Variants.none L lv m ρ main
    (segs m (outs m) Variants.none L lv E () (pds m) (R0 m) (R1 m))
    (fun c Q => by
      rewrite [main_chain c, Seg.run_eq_chain,
        show (segs m (outs m) Variants.none L lv E () (pds m) (R0 m) (R1 m) c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj))
    ?_
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨hpre0 m c, hpost0 m c,
      hpre1D m (outs m) Variants.none L lv () (pd m) (fun _ => 0) (fun _ => 0) (cut 1) E (fun _ => iprop(emp)) (fun c => ?_) (outs_quant m) c,
      (hpost1D m (outs m) Variants.none L lv () (pd m) (fun _ => 0) (fun _ => 0) (cut 1) E (fun _ => iprop(emp)) (fun c => ?_) (outs_quant m) c).trans
        (sep_mono .rfl ?_)⟩)
    (hinit := ?_)
    (QY := fun c s => s.mem ((c.tc : Thread nD τ).loc main_v2) = (quantDat m c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨Hp, HO⟩
    isplitl [Hp]; · iexact Hp
    isplitl [HO]; · iexact HO
    iempintro
  · iintro ⟨Hp, HO, -⟩
    isplitl [Hp]; · iexact Hp
    iexact HO
  · iintro ⟨-, HO⟩
    iexact HO
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans
          ((V3_at_main_v2 m (outs m) c).trans (outs_quant m c)),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c)⟩
    · iexact HSI

/-- Every run ends, faultless, with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

end Cert.WholeIdeal.Both

end
-- ==== Proof.WholeQuant.lean ====
/- What the second call of the whole program leaves in the result: at each index the kernel's element of `QuantElem`, at
   the thresholds, the value and the gradient that the call finds. -/
module

public import proofs.«01_k».proof.Proof.QuantElem
public import Idealize.ShloMosaic.PureOps.IdealRules
public import Idealize.ShloMosaic.Lib.Pipeline.Value
public import proofs.«01_k».proof.Proof.WholeIdealRun.Launch

@[expose] public section

set_option maxRecDepth 16384

noncomputable section

namespace Cert.WholeIdeal.Elem

open Cert.WholeIdeal Cert.WholeIdeal.Gen Cert.WholeIdeal.Own
open Idealize.ShloMosaic Idealize.ShloMosaic.TcCoe Idealize.SL Idealize.SL.RA Idealize.SL.Sem Quant
open Idealize.ShloMosaic.Tactic Idealize.ShloMosaic.Rounds
open Idealize.ShloMosaic.Pipeline (Dat)

/-- The kernel's constant is the reciprocal of the natural logarithm of 2. -/
theorem inv_ln2 : (Named.named (F := Ideal) (φ := .f32) Cert.WholeIdeal.κ "inv_ln2" 0x3FB8AA3B#32 : EReal)
    = (((Real.log 2)⁻¹ : ℝ) : EReal) :=
  IdealRules.named_const.ideal_named_scalar _ _ _ _ rfl

/-- What the body stores, at an index of the block. -/
theorem pay_apply (v0 v1 v2 : Elt Ideal .f32) (v3 v4 : Vec Ideal S128x8192 .f32) (i : S128x8192.Idx) :
    k1_pay1 (F := Ideal) v3 (k1_pay3 v0 v1 v2 v4) (k1_pay4 v0 v1 v2 v4) (k1_pay5 v0 v1 v2 v4) (k1_pay7 v0 v1 v2 v4)
        (k1_pay8 v0 v1 v2 v4) (k1_pay9 v0 v1 v2 v4) (k1_pay10 v3) i
      = kElem (((Real.log 2)⁻¹ : ℝ) : EReal) (bitsOf v0 v1 v2 (v4 i)) (v3 i) := by
  rw [← inv_ln2]
  rfl

theorem hz : (![0, 0] : Fin 2 → Nat) = fun _ => 0 := by funext a; fin_cases a <;> rfl

variable (V : (c : Dev nD) → (b : Ref sig .tc) → Buf (Elt Ideal) ((c : Thread nD τ).loc b))

/-- The second call's data over any contents `V` of the buffers. -/
local notation "𝕕" => K1.dat (F := Ideal) (Ix := Unit) (U := UR sig nD τ) (Lvl := ℕ) Variants.none V (fun _ => 0)

/-- The `k`-th threshold's index. -/
def at8 (k : Fin 8) : S8.Idx := fun a => match a with | ⟨0, _⟩ => k

/-- Loading a whole block reads the block. -/
theorem ld_whole (X : Vec Ideal S128x8192 .f32) (inb) :
    View.ld X (Rect.unit (s := S128x8192) ![0, 0] ![128, 8192] inb) = X :=
  View.ld_unit_zero (S := S128x8192) hz inb X

/-- Loading one word of the thresholds reads that word. -/
theorem ld_word (X : Vec Ideal S8 .f32) (k : Fin 8) (inb) (h) :
    View.ld X (Rect.unit (s := S8) ![k.val] ![1] inb) (Shape.Idx.first h) = X (at8 k) :=
  congrArg X (funext fun a => Fin.ext (by
    fin_cases a
    show k.val + 1 * 0 = k.val
    omega))

/-- What a grid point leaves in its block, at an index. -/
theorem outs_apply (c : Dev nD) (t : Fin cfg1.N) (i : S128x8192.Idx) :
    K1.outsAt1 (Ix := Unit) (U := UR sig nD τ) (Lvl := ℕ) Variants.none V c t i = kElem (((Real.log 2)⁻¹ : ℝ) : EReal)
      (bitsOf (K1.iblk V c 0 t (at8 0)) (K1.iblk V c 0 t (at8 1)) (K1.iblk V c 0 t (at8 2)) (K1.iblk V c 2 t i)) (K1.iblk V c 1 t i) := by
  unfold K1.outsAt1 K1.out1_A_3
  rw [View.read_writes_eq_canon _ _ _ (K1.cover1_A_3 Variants.none c _ _ _ _ _ _ _ _ _ _ _ _)]
  unfold K1.kernelRun1_A
  dsimp only
  sl_unfold_words
  simp only [View.readAt_eq_ld, (K1.hs1_0 t).read_unread, (K1.hs1_1 t).read_unread, (K1.hs1_2 t).read_unread]
  refine (congrFun (View.canon_unit_zero (S := S128x8192) hz _ _) i).trans ?_
  rw [pay_apply, ld_whole, ld_whole]
  exact congrArg (fun w => kElem _ w _) (congrFun (congr (congr (congrArg bitsOf (ld_word _ 0 _ _)) (ld_word _ 1 _ _))
    (ld_word _ 2 _ _)) _)

/-! ## The blocks -/

theorem idx0 : ∀ t : Fin cfg1.N, win1_0.index t (0 : Fin 1) = 0 := (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)

/-- Where element `j` of block `t` lies in the array: row `128 t + j₀`, column `j₁`. -/
def place (t : Fin cfg1.N) (j : S128x8192.Idx) : S8192x8192.Idx := fun a => match a with
  | ⟨0, _⟩ => ⟨t.val * 128 + (j 0).val, by
      have h : t.val < 64 := lt_of_lt_of_eq t.isLt N_1
      have h0 : (j 0).val < 128 := (j 0).isLt
      show t.val * 128 + (j 0).val < 8192
      omega⟩
  | ⟨1, _⟩ => ⟨(j 1).val, (j 1).isLt⟩

theorem emb0 (t : Fin cfg1.N) (j : S8.Idx) : ((cfg1.win 0).blk t).view.emb j = j := by
  have e := idx0 t
  funext a; apply Fin.ext
  match a with
  | ⟨0, _⟩ => show win1_0.index t (0 : Fin 1) * 8 + 1 * (j 0).val = (j 0).val; omega

theorem emb1 (t : Fin cfg1.N) (j : S128x8192.Idx) : ((cfg1.win 1).blk t).view.emb j = place t j := by
  obtain ⟨e0, e1⟩ := idx1 t
  funext a; apply Fin.ext
  match a with
  | ⟨0, _⟩ => show win1_1.index t (0 : Fin 2) * 128 + 1 * (j 0).val = t.val * 128 + (j 0).val; omega
  | ⟨1, _⟩ => show win1_1.index t (1 : Fin 2) * 8192 + 1 * (j 1).val = (j 1).val; omega

theorem emb2 (t : Fin cfg1.N) (j : S128x8192.Idx) : ((cfg1.win 2).blk t).view.emb j = place t j := by
  obtain ⟨e0, e1⟩ := idx2 t
  funext a; apply Fin.ext
  match a with
  | ⟨0, _⟩ => show win1_2.index t (0 : Fin 2) * 128 + 1 * (j 0).val = t.val * 128 + (j 0).val; omega
  | ⟨1, _⟩ => show win1_2.index t (1 : Fin 2) * 8192 + 1 * (j 1).val = (j 1).val; omega

theorem emb3 (t : Fin cfg1.N) (j : S128x8192.Idx) : ((cfg1.win 3).blk t).view.emb j = place t j := by
  obtain ⟨e0, e1⟩ := idx3 t
  funext a; apply Fin.ext
  match a with
  | ⟨0, _⟩ => show win1_3.index t (0 : Fin 2) * 128 + 1 * (j 0).val = t.val * 128 + (j 0).val; omega
  | ⟨1, _⟩ => show win1_3.index t (1 : Fin 2) * 8192 + 1 * (j 1).val = (j 1).val; omega

/-- The result as one function of the thresholds `q`, the values `x` and the gradients `g`. -/
def quantised (q : Vec Ideal S8 .f32) (x g : Vec Ideal S8192x8192 .f32) : Vec Ideal S8192x8192 .f32 :=
  fun i => kElem (((Real.log 2)⁻¹ : ℝ) : EReal) (bitsOf (q (at8 0)) (q (at8 1)) (q (at8 2)) (g i)) (x i)

theorem flushed3 (c : Dev nD) (t : Fin cfg1.N) : (𝕕 c).flushed 3 t
    = (cfg1.win 3).cut (grid1.coords t) (K1.outsAt1 (Ix := Unit) (U := UR sig nD τ) (Lvl := ℕ) Variants.none V c t) := by
  show (cfg1.win 3).cut (grid1.coords t) ((𝕕 c).after 3 t) = _
  rw [K1.after1_3]

/-- What a grid point writes back is its block of `quantised`. -/
theorem flushed_eq (c : Dev nD) (t : Fin cfg1.N) :
    (𝕕 c).flushed 3 t = ((cfg1.win 3).blk t).view.read (Elt Ideal)
      (quantised (V c main_v1) (V c main_arg0) (V c main_arg1)) := by
  rw [flushed3]
  funext j
  show K1.outsAt1 (Ix := Unit) (U := UR sig nD τ) (Lvl := ℕ) Variants.none V c t j = quantised (V c main_v1) (V c main_arg0) (V c main_arg1) (((cfg1.win 3).blk t).view.emb j)
  rw [outs_apply, emb3]
  show kElem _ (bitsOf (V c main_v1 (((cfg1.win 0).blk t).view.emb (at8 0)))
      (V c main_v1 (((cfg1.win 0).blk t).view.emb (at8 1))) (V c main_v1 (((cfg1.win 0).blk t).view.emb (at8 2)))
      (V c main_arg1 (((cfg1.win 2).blk t).view.emb j))) (V c main_arg0 (((cfg1.win 1).blk t).view.emb j)) = _
  rw [emb0, emb0, emb0, emb1, emb2]
  rfl

/-- Every index of the result lies in some point's block. -/
theorem covered (i : S8192x8192.Idx) :
    ∃ t : Fin cfg1.N, (cfg1.win 3).flush t = true ∧ i ∈ ((cfg1.win 3).blk t).view.set := by
  have h0 : (i 0).val < 8192 := (i 0).isLt
  have ht : (i 0).val / 128 < cfg1.N := by rw [show cfg1.N = 64 from N_1]; omega
  refine ⟨⟨(i 0).val / 128, ht⟩, flush1_3 _, ?_⟩
  have e : place ⟨(i 0).val / 128, ht⟩ (fun a => match a with
      | ⟨0, _⟩ => ⟨(i 0).val % 128, Nat.mod_lt _ (by norm_num)⟩
      | ⟨1, _⟩ => ⟨(i 1).val, (i 1).isLt⟩) = i := by
    funext a; apply Fin.ext
    match a with
    | ⟨0, _⟩ => show (i 0).val / 128 * 128 + (i 0).val % 128 = (i 0).val; omega
    | ⟨1, _⟩ => rfl
  have h := ((cfg1.win 3).blk ⟨(i 0).val / 128, ht⟩).view.emb_mem_set (fun a => match a with
      | ⟨0, _⟩ => ⟨(i 0).val % 128, Nat.mod_lt _ (by norm_num)⟩
      | ⟨1, _⟩ => ⟨(i 1).val, (i 1).isLt⟩)
  exact (congrArg (· ∈ _) ((emb3 _ _).trans e)).mp h

/-- The result that the second call leaves, as one function of what it finds. -/
theorem quant_final (c : Dev nD) :
    (𝕕 c).arrAt 3 cfg1.N = quantised (V c main_v1) (V c main_arg0) (V c main_arg1) :=
  (𝕕 c).arrAt_eq_of_cover 3 (quantised (V c main_v1) (V c main_arg0) (V c main_arg1)) (fun t _ => flushed_eq V c t) covered

end Cert.WholeIdeal.Elem

end
-- ==== Proof.Counting.lean ====
/- Counting the gradients below a threshold, in plain mathematics: halving a block of zeros and ones by adding its two
   halves, five times, adds up every sixteenth row; and the 32-bit sum of such sums over all blocks is the 32-bit sum of
   the zeros and ones themselves. -/
module

public import proofs.«01_k».proof.Proof.QuantElem
public import Idealize.ShloMosaic.PureOps.Reduce
public import Idealize.ShloMosaic.Lib.Pipeline.Value
public import Mathlib.Data.BitVec

@[expose] public section

open Idealize.ShloMosaic

namespace Quant

/-- The shape of the two arguments. -/
abbrev Whole : Shape := ⟨2, ![8192, 8192]⟩
/-- The shape of one point's block of gradients. -/
abbrev Block : Shape := ⟨2, ![512, 8192]⟩
/-- The shape of one threshold's sums. -/
abbrev Sums : Shape := ⟨3, ![1, 16, 8192]⟩

/-- One when the magnitude of `g` is at most `t`, else zero. -/
noncomputable def hit (t g : EReal) : ℕ := by
  classical exact if max g (-g) ≤ t then 1 else 0

theorem hit_le_one (t g : EReal) : hit t g ≤ 1 := by
  unfold hit; split <;> omega

theorem select_ole {α : Type} (x y : EReal) (a b : α) :
    Scalar.select (Ideal.cmp .ole x y) a b = if x ≤ y then a else b := by
  classical
  exact select_ofBool (x ≤ y) a b

/-- The comparison's word, widened, is the number. -/
theorem setWidth_ole (t g : EReal) : (Ideal.cmp .ole (max g (-g)) t).setWidth 32 = BitVec.ofNat 32 (hit t g) := by
  classical
  show (BitVec.ofBool (decide (max g (-g) ≤ t))).setWidth 32 = _
  unfold hit
  by_cases hle : max g (-g) ≤ t <;> simp [hle]

/-- The bf16 word of `1.0`. -/
theorem lit_bf16_one : Ideal.ofBits .bf16 0x3F80#16 = ((1 : ℝ) : EReal) := by
  simp [Ideal.ofBits, Ideal.ieee, -EReal.coe_mul]; norm_num
/-- The bf16 word of `0.0`. -/
theorem lit_bf16_zero : Ideal.ofBits .bf16 0x0000#16 = ((0 : ℝ) : EReal) := by
  simp [Ideal.ofBits, Ideal.ieee, -EReal.coe_mul]

theorem select_hit (t g : EReal) :
    Scalar.select (Ideal.cmp .ole (max g (-g)) t) (Ideal.ofBits .bf16 0x3F80#16) (Ideal.ofBits .bf16 0x0000#16)
      = ((hit t g : ℕ) : EReal) := by
  classical
  rw [select_ole, lit_bf16_one, lit_bf16_zero]
  unfold hit
  split <;> simp

/-! ## Halving -/

/-- The index of a row and a column. -/
def rowCol (p q : ℕ) (h : p < 512 ∧ q < 8192) : Block.Idx := fun a => match a with
  | ⟨0, _⟩ => ⟨p, h.1⟩
  | ⟨1, _⟩ => ⟨q, h.2⟩

/-- A block's entries by two natural numbers, zero outside the block. -/
noncomputable def entry (m : Block.Idx → EReal) (p q : ℕ) : EReal :=
  if h : p < 512 ∧ q < 8192 then m (rowCol p q h) else 0

theorem entry_self (m : Block.Idx → EReal) (i : Block.Idx) : m i = entry m (i 0).val (i 1).val := by
  unfold entry
  rw [dif_pos ⟨(i 0).isLt, (i 1).isLt⟩]
  congr 1
  funext a
  match a with
  | ⟨0, _⟩ => rfl
  | ⟨1, _⟩ => rfl

/-- Entries `n` rows apart, added. -/
noncomputable def pair (n : ℕ) (f : ℕ → ℕ → EReal) (p q : ℕ) : EReal := f p q + f (n + p) q

/-- Adding the two halves of an array adds the entries that lie half an array apart. -/
theorem halve {N n : ℕ} (v : FVec Ideal (⟨2, ![N, 8192]⟩ : Shape) .bf16) (f : ℕ → ℕ → EReal)
    (h0 : (⟨2, ![N, 8192]⟩ : Shape).Slices ![0, 0] (⟨2, ![n, 8192]⟩ : Shape))
    (h1 : (⟨2, ![N, 8192]⟩ : Shape).Slices ![n, 0] (⟨2, ![n, 8192]⟩ : Shape))
    (hv : ∀ i, v i = f (i 0).val (i 1).val) (i : (⟨2, ![n, 8192]⟩ : Shape).Idx) :
    addf (extractStridedSlice (⟨2, ![n, 8192]⟩ : Shape) ![0, 0] v h0)
      (extractStridedSlice (⟨2, ![n, 8192]⟩ : Shape) ![n, 0] v h1) i
      = pair n f (i 0).val (i 1).val := by
  show v _ + v _ = _
  rw [hv, hv]
  show f (0 + (i 0).val) (0 + (i 1).val) + f (n + (i 0).val) (0 + (i 1).val) = _
  rw [Nat.zero_add, Nat.zero_add]
  rfl

/-- Five halvings add up every sixteenth row. -/
theorem tree (f : ℕ → ℕ → EReal) (r q : ℕ) :
    pair 16 (pair 32 (pair 64 (pair 128 (pair 256 f)))) r q = ∑ k ∈ Finset.range 32, f (16 * k + r) q := by
  simp only [Finset.sum_range_succ, Finset.sum_range_zero, zero_add, pair, ← Nat.add_assoc]
  norm_num
  abel

/-! ## Words -/

/-- The 32-bit word of a small natural number read as a real one. -/
theorem fptosi_natCast {n : ℕ} (h : n < 2 ^ 31) : Ideal.fptosi 32 ((n : ℕ) : EReal) = BitVec.ofNat 32 n := by
  have e : ((n : ℕ) : EReal) = (((n : ℕ) : ℝ) : EReal) := by simp
  apply BitVec.eq_of_toInt_eq
  rw [e, toInt_fptosi, Ideal.toIntClamped_coe, if_pos (by positivity), Int.floor_natCast, BitVec.toInt_ofNat', Int.bmod_eq_of_le (by omega) (by omega)]
  omega

theorem ofNat_sum {ι : Type*} (s : Finset ι) (f : ι → ℕ) :
    BitVec.ofNat 32 (∑ i ∈ s, f i) = ∑ i ∈ s, BitVec.ofNat 32 (f i) := by
  classical
  induction s using Finset.induction_on with
  | empty => simp
  | insert a s ha ih => rw [Finset.sum_insert ha, Finset.sum_insert ha, BitVec.ofNat_add, ih]

/-- How many gradients have a magnitude of at most `t`, as a 32-bit word. -/
noncomputable def count (t : EReal) (g : Whole.Idx → EReal) : BitVec 32 := ∑ i, BitVec.ofNat 32 (hit t (g i))

/-- The gradient at row `16 k + r` of block `n`, column `c`. -/
def place3 (n k : ℕ) (hn : n < 16) (hk : k < 32) (j : Sums.Idx) : Whole.Idx := fun a => match a with
  | ⟨0, _⟩ => ⟨512 * n + (16 * k + (j 1).val), by
      have := (j 1).isLt; simp at this; show _ < 8192; omega⟩
  | ⟨1, _⟩ => ⟨(j 2).val, (j 2).isLt⟩

/-- Every index of the array is one row of one block, counted from one of the sixteen rows that are kept. -/
def spread : (Sums.Idx × Fin 16 × Fin 32) ≃ Whole.Idx where
  toFun x := place3 x.2.1.val x.2.2.val x.2.1.isLt x.2.2.isLt x.1
  invFun i := (fun a => match a with
      | ⟨0, _⟩ => ⟨0, Nat.one_pos⟩
      | ⟨1, _⟩ => ⟨(i 0).val % 16, Nat.mod_lt _ (by norm_num)⟩
      | ⟨2, _⟩ => ⟨(i 1).val, (i 1).isLt⟩,
    ⟨(i 0).val / 512, by have := (i 0).isLt; simp at this; omega⟩,
    ⟨(i 0).val % 512 / 16, by omega⟩)
  left_inv := by
    rintro ⟨j, n, k⟩
    have h0 := (j 0).isLt; have h1 := (j 1).isLt; simp at h0 h1
    have hk := k.isLt
    have e0 : (place3 n.val k.val n.isLt k.isLt j 0).val = 512 * n.val + (16 * k.val + (j 1).val) := rfl
    refine Prod.ext ?_ (Prod.ext (Fin.ext ?_) (Fin.ext ?_))
    · funext a
      apply Fin.ext
      match a with
      | ⟨0, _⟩ => show 0 = (j 0).val; omega
      | ⟨1, _⟩ => show (place3 n.val k.val n.isLt k.isLt j 0).val % 16 = (j 1).val; rw [e0]; omega
      | ⟨2, _⟩ => rfl
    · show (place3 n.val k.val n.isLt k.isLt j 0).val / 512 = n.val; rw [e0]; omega
    · show (place3 n.val k.val n.isLt k.isLt j 0).val % 512 / 16 = k.val; rw [e0]; omega
  right_inv := by
    intro i
    funext a
    apply Fin.ext
    match a with
    | ⟨0, _⟩ =>
      show 512 * ((i 0).val / 512) + (16 * ((i 0).val % 512 / 16) + (i 0).val % 16) = (i 0).val
      omega
    | ⟨1, _⟩ => rfl

/-- What block `n` adds to the sum at `j`. -/
noncomputable def blockHits (t : EReal) (g : Whole.Idx → EReal) (n : ℕ) (j : Sums.Idx) : ℕ :=
  if hn : n < 16 then ∑ k : Fin 32, hit t (g (place3 n k.val hn k.isLt j)) else 0

theorem blockHits_le (t : EReal) (g : Whole.Idx → EReal) (n : ℕ) (j : Sums.Idx) : blockHits t g n j ≤ 32 := by
  unfold blockHits
  split
  · exact (Finset.sum_le_card_nsmul _ _ 1 fun k _ => hit_le_one _ _).trans (by simp)
  · omega

/-- The words of the sixteen blocks' sums, added over all the places where they are kept, are the count. -/
theorem sum_blocks (t : EReal) (g : Whole.Idx → EReal) :
    ∑ j : Sums.Idx, Ideal.fptosi 32 (((∑ n ∈ Finset.range 16, blockHits t g n j : ℕ)) : EReal) = count t g := by
  have hb (j : Sums.Idx) : ∑ n ∈ Finset.range 16, blockHits t g n j < 2 ^ 31 :=
    lt_of_le_of_lt (Finset.sum_le_card_nsmul _ _ 32 fun n _ => blockHits_le t g n j) (by simp)
  have e (j : Sums.Idx) : Ideal.fptosi 32 (((∑ n ∈ Finset.range 16, blockHits t g n j : ℕ)) : EReal)
      = ∑ x : Fin 16 × Fin 32, BitVec.ofNat 32 (hit t (g (spread (j, x)))) := by
    rw [fptosi_natCast (hb j), Finset.sum_range, ofNat_sum, Fintype.sum_prod_type]
    refine Finset.sum_congr rfl fun n _ => ?_
    unfold blockHits
    rw [dif_pos n.isLt, ofNat_sum]
    rfl
  rw [Finset.sum_congr rfl fun j _ => e j, ← Fintype.sum_prod_type']
  exact Fintype.sum_equiv spread _ _ fun _ => rfl

/-- The quartile's estimate inside one segment of the ladder: the segment's start `lo`, and the part of its width `step` that
    the wanted position `pos` takes between the counts at its two ends. -/
noncomputable def within (pos step lo : EReal) (c c' : BitVec 32) : EReal :=
  lo + Ideal.div (pos - ((c.toInt : ℝ) : EReal)) (max (((c' - c).toInt : ℝ) : EReal) (Ideal.ofBits .f32 0x3F800000#32)) * step

/-- The estimate from the counts at four thresholds: in the last segment whose first count is at most the position. -/
noncomputable def estimate (n : BitVec 32) (pos step l₀ l₁ l₂ : EReal) (c₀ c₁ c₂ c₃ : BitVec 32) : EReal :=
  Scalar.select (Scalar.cmpi .sle c₂ n) (within pos step l₂ c₂ c₃)
    (Scalar.select (Scalar.cmpi .sle c₁ n) (within pos step l₁ c₁ c₂)
      (Scalar.select (Scalar.cmpi .sle c₀ n) (within pos step l₀ c₀ c₁) l₀))

/-- The twelve thresholds, four around each quartile's place. -/
noncomputable def lvl (j : ℕ) : EReal := Ideal.ofBits .bf16
  (([0x3E97#16, 0x3E9F#16, 0x3EA7#16, 0x3EAF#16, 0x3F27#16, 0x3F2B#16, 0x3F2F#16, 0x3F33#16, 0x3F90#16, 0x3F92#16, 0x3F94#16,
    0x3F96#16] : List (BitVec 16)).getD j 0#16)

/-- The three estimates of the quartiles of the magnitudes of `g`. -/
noncomputable def quartile₁ (g : Whole.Idx → EReal) : EReal :=
  estimate 16777216#32 (Ideal.ofBits .f32 0x4B800000#32) (Ideal.ofBits .f32 0x3C800000#32) (Ideal.ofBits .f32 0x3E978000#32)
    (Ideal.ofBits .f32 0x3E9F8000#32) (Ideal.ofBits .f32 0x3EA78000#32) (count (lvl 0) g) (count (lvl 1) g) (count (lvl 2) g)
    (count (lvl 3) g)

noncomputable def quartile₂ (g : Whole.Idx → EReal) : EReal :=
  estimate 33554432#32 (Ideal.ofBits .f32 0x4C000000#32) (Ideal.ofBits .f32 0x3C800000#32) (Ideal.ofBits .f32 0x3F278000#32)
    (Ideal.ofBits .f32 0x3F2B8000#32) (Ideal.ofBits .f32 0x3F2F8000#32) (count (lvl 4) g) (count (lvl 5) g) (count (lvl 6) g)
    (count (lvl 7) g)

noncomputable def quartile₃ (g : Whole.Idx → EReal) : EReal :=
  estimate 50331648#32 (Ideal.ofBits .f32 0x4C400000#32) (Ideal.ofBits .f32 0x3C800000#32) (Ideal.ofBits .f32 0x3F908000#32)
    (Ideal.ofBits .f32 0x3F928000#32) (Ideal.ofBits .f32 0x3F948000#32) (count (lvl 8) g) (count (lvl 9) g) (count (lvl 10) g)
    (count (lvl 11) g)

end Quant
-- ==== Proof.WholeLadder.lean ====
/- What the first call of the whole program computes: its scratch holds, per threshold, row residue and column, how many
   gradients met so far have a magnitude of at most that threshold, and its output the three estimates made from the counts. -/
module

public import proofs.«01_k».proof.Proof.Counting
public import proofs.«01_k».proof.Proof.WholeIdealRun.Launch
public import Idealize.ShloMosaic.Lib.Pipeline.Value
public import Idealize.ShloMosaic.Lib.Pipeline.ReadBack
public import Idealize.ShloMosaic.Lib.Pipeline.CanonAppend

@[expose] public section

set_option maxRecDepth 16384

noncomputable section

namespace Cert.WholeIdeal.Counts

open Cert.WholeIdeal Cert.WholeIdeal.Gen Cert.WholeIdeal.Ladder
open Idealize.ShloMosaic Idealize.ShloMosaic.TcCoe Idealize.ShloMosaic.Tactic Idealize.SL Idealize.SL.RA Idealize.SL.Sem Quant
open Idealize.ShloMosaic.Rounds
open Idealize.ShloMosaic.Pipeline (Dat)

/-- How many gradients of every sixteenth row of a block meet the threshold. -/
def gained (t : EReal) (g : Vec Ideal S512x8192 .f32) (r q : ℕ) : EReal :=
  ∑ k ∈ Finset.range 32, entry (fun i => ((hit t (g i) : ℕ) : EReal)) (16 * k + r) q

/-- One threshold's update of its sums. -/
theorem step_apply (g : Vec Ideal S512x8192 .f32) (t : EReal) (a : Vec Ideal S1x16x8192 .f32) (x : S1x16x8192.Idx) :
    k0_pay1 (F := Ideal) (k0_pay20 (F := Ideal) g) t a x = a x + gained t g (x 1).val (x 2).val := by
  unfold k0_pay1
  dsimp only
  refine (shapeCast_addUnit_apply ![16, 8192] _ shapeCasts_S16x8192_S1x16x8192 x).trans ?_
  refine congrArg₂ (fun p q : EReal => p + q)
    ((shapeCast_dropUnit_apply ![16, 8192] a shapeCasts_S1x16x8192_S16x8192 (fun b => x b.succ)).trans (congrArg a ?_)) ?_
  · funext b
    refine Fin.cases ?_ (fun b => rfl) b
    apply Fin.ext
    have := (x 0).isLt
    simp at this
    show 0 = (x 0).val
    omega
  · rw [gained, ← tree]
    have h := halve _ _ slices_S32x8192_o0_0_S16x8192 slices_S32x8192_o16_0_S16x8192
      (halve _ _ slices_S64x8192_o0_0_S32x8192 slices_S64x8192_o32_0_S32x8192
        (halve _ _ slices_S128x8192_o0_0_S64x8192 slices_S128x8192_o64_0_S64x8192
          (halve _ _ slices_S256x8192_o0_0_S128x8192 slices_S256x8192_o128_0_S128x8192
            (halve (fun i => ((hit t (g i) : ℕ) : EReal)) _ slices_S512x8192_o0_0_S256x8192 slices_S512x8192_o256_0_S256x8192
              (entry_self (fun i => ((hit t (g i) : ℕ) : EReal)))))))
    refine Eq.trans ?_ (h (fun b => x b.succ))
    have e : (fun i => ((hit t (g i) : ℕ) : EReal)) = select (cmpf .ole (k0_pay20 (F := Ideal) g) (broadcast S512x8192 t))
        (broadcast S512x8192 (Scalar.ofBits (F := Ideal) .bf16 0x3F80#16))
        (broadcast S512x8192 (Scalar.ofBits (F := Ideal) .bf16 0x0000#16)) :=
      funext fun i => (select_hit t (g i)).symm
    rw [e]
    rfl

/-- The sums after one more block, from the sums before. -/
def stepped (acc : Vec Ideal S12x16x8192 .f32) (g : Vec Ideal S512x8192 .f32) : Vec Ideal S12x16x8192 .f32 :=
  fun y => acc y + gained (lvl (y 0).val) g (y 1).val (y 2).val

theorem inb_at (j : ℕ) (hj : j < 12) (a : Fin 3) : (![j, 0, 0] : Fin 3 → ℕ) a + S1x16x8192.size a ≤ S12x16x8192.size a := by
  match a with
  | ⟨0, _⟩ => show j + 1 ≤ 12; omega
  | ⟨1, _⟩ => exact Nat.le_refl _
  | ⟨2, _⟩ => exact Nat.le_refl _

/-- Where one threshold's sums lie in the scratch. -/
abbrev place (j : ℕ) (hj : j < 12) : Rect S12x16x8192 := Rect.unit (s := S12x16x8192) ![j, 0, 0] S1x16x8192.size (inb_at j hj)

/-- The store that updates one threshold's sums, from those it loaded. -/
def store (g : Vec Ideal S512x8192 .f32) (j : ℕ) (hj : j < 12) (a : Vec Ideal S1x16x8192 .f32) :
    View.Piece (Elt Ideal) S12x16x8192 .f32 :=
  ⟨place j hj, k0_pay1 (F := Ideal) (k0_pay20 (F := Ideal) g) (lvl j) a⟩

/-- The first `n` stores of a step, the last one first, from what each loads. -/
def stores (g : Vec Ideal S512x8192 .f32) (a : ∀ j, j < 12 → Vec Ideal S1x16x8192 .f32) :
    (n : ℕ) → n ≤ 12 → List (View.Piece (Elt Ideal) S12x16x8192 .f32)
  | 0, _ => []
  | n + 1, h => store g n h (a n h) :: stores g a n (Nat.le_of_succ_le h)

/-- One store is its slice of `stepped`. -/
theorem store_at (acc : Vec Ideal S12x16x8192 .f32) (g : Vec Ideal S512x8192 .f32) (j : ℕ) (hj : j < 12) (x : S1x16x8192.Idx) :
    k0_pay1 (F := Ideal) (k0_pay20 (F := Ideal) g) (lvl j) (View.ld (Val := Elt Ideal) (e' := .f32) acc (place j hj)) x
      = stepped acc g ((place j hj).emb x) := by
  rw [step_apply]
  have h0 : (x 0).val = 0 := by have := (x 0).isLt; simp at this; omega
  have e0 : (((place j hj).emb x) 0).val = j := by
    show j + 1 * (x 0).val = j; omega
  have e1 : (((place j hj).emb x) 1).val = (x 1).val := by
    show 0 + 1 * (x 1).val = _; omega
  have e2 : (((place j hj).emb x) 2).val = (x 2).val := by
    show 0 + 1 * (x 2).val = _; omega
  unfold stepped
  rw [e0, e1, e2]
  rfl

theorem stores_of (acc : Vec Ideal S12x16x8192 .f32) (g : Vec Ideal S512x8192 .f32) (n : ℕ) (h : n ≤ 12) :
    View.PiecesOf (stepped acc g) (stores g (fun j hj => View.ld (Val := Elt Ideal) (e' := .f32) acc (place j hj)) n h) := by
  induction n with
  | zero => trivial
  | succ n ih => exact ⟨fun x => store_at acc g n h x, ih _⟩

/-- The sums of threshold `j` are the scratch's entries with first coordinate `j`. -/
theorem mem_place (j : ℕ) (hj : j < 12) (y : S12x16x8192.Idx) : y ∈ (place j hj).set ↔ (y 0).val = j := by
  rw [Rect.mem_set_unit]
  constructor
  · intro h
    have h1 : j ≤ (y 0).val ∧ (y 0).val < j + 1 := h 0
    omega
  · intro h a
    match a with
    | ⟨0, _⟩ => show j ≤ (y 0).val ∧ (y 0).val < j + 1; omega
    | ⟨1, _⟩ => have := (y 1).isLt; show 0 ≤ (y 1).val ∧ (y 1).val < 0 + 16; simp at this; omega
    | ⟨2, _⟩ => have := (y 2).isLt; show 0 ≤ (y 2).val ∧ (y 2).val < 0 + 8192; simp at this; omega

/-- The first `n` stores reach the first `n` thresholds. -/
theorem stores_cover (g : Vec Ideal S512x8192 .f32) (a : ∀ j, j < 12 → Vec Ideal S1x16x8192 .f32) (y : S12x16x8192.Idx)
    (n : ℕ) (h : n ≤ 12) (hy : (y 0).val < n) : ∃ p ∈ stores g a n h, y ∈ p.1.set := by
  induction n with
  | zero => omega
  | succ n ih =>
    by_cases hn : (y 0).val < n
    · obtain ⟨p, hp, hm⟩ := ih _ hn
      exact ⟨p, List.mem_cons_of_mem _ hp, hm⟩
    · exact ⟨_, List.mem_cons_self, (mem_place n h y).mpr (by omega)⟩

/-- What twelve stores leave, over whatever was stored before them. -/
theorem canon_stores (acc : Vec Ideal S12x16x8192 .f32) (g : Vec Ideal S512x8192 .f32) (L : List (View.Piece (Elt Ideal) S12x16x8192 .f32)) :
    View.canon (stores g (fun j hj => View.ld (Val := Elt Ideal) (e' := .f32) acc (place j hj)) 12 (Nat.le_refl _) ++ L) = stepped acc g :=
  funext fun y => View.canon_append_of_piecesOf (stepped acc g) L _ (stores_of acc g 12 _) y (stores_cover g _ y 12 _ (y 0).isLt)

theorem hz2 : (![0, 0] : Fin 2 → ℕ) = fun _ => 0 := by
  funext a; match a with
  | ⟨0, _⟩ => rfl
  | ⟨1, _⟩ => rfl

section Run

variable (c : Dev nD) (i : grid0.Coords) (arg1 : Memref sig .tc .vmem S512x8192 .f32) (harg1 : arg1.IsWhole)
  (arg2 : Memref sig .tc .vmem S1x8 .f32) (harg2 : arg2.IsWhole) (arg3 : Memref sig .tc .vmem S12x16x8192 .f32) (harg3 : arg3.IsWhole)
  (x0 : Vec Ideal S512x8192 .f32) (xs0 : Vec Ideal S12x16x8192 .f32)

/-- The body's load of its block reads the block. -/
theorem load_block : View.readAt (Elt Ideal) arg1.view (Rect.unit (s := S512x8192) ![0, 0] S512x8192.size inb_S512x8192_S512x8192_0_0).toLoadRect
    (harg1.unread x0) = x0 := by
  refine Eq.trans (b := View.ld (Val := Elt Ideal) (e' := .f32) x0 (Rect.unit (s := S512x8192) ![0, 0] S512x8192.size inb_S512x8192_S512x8192_0_0)) ?_ ?_
  · exact congrArg (fun X => View.ld X (Rect.unit (s := S512x8192) ![0, 0] S512x8192.size inb_S512x8192_S512x8192_0_0)) (harg1.read_unread x0)
  · exact View.ld_unit_zero (Val := Elt Ideal) (e := .f32) hz2 inb_S512x8192_S512x8192_0_0 x0

theorem load_sums (r : Rect S12x16x8192) : View.readAt (Elt Ideal) arg3.view r.toLoadRect (harg3.unread xs0)
    = View.ld (Val := Elt Ideal) (e' := .f32) xs0 r :=
  congrArg (fun X => View.ld X r) (harg3.read_unread xs0)

/-- The stores of a middle step, and of the last. -/
theorem stores_B (hc0 : ¬cond0_0 i) (hc1 : ¬cond0_1 i) :
    (kernelRun0_B (F := Ideal) c i arg1 harg1 arg2 harg2 arg3 harg3 hc0 hc1 x0 xs0).2.1
      = stores x0 (fun j hj => View.ld (Val := Elt Ideal) (e' := .f32) xs0 (place j hj)) 12 (Nat.le_refl _) := by
  refine Eq.trans (b := stores (View.readAt (Elt Ideal) arg1.view (Rect.unit (s := S512x8192) ![0, 0] S512x8192.size
    inb_S512x8192_S512x8192_0_0).toLoadRect (harg1.unread x0))
    (fun j hj => View.readAt (Elt Ideal) arg3.view (place j hj).toLoadRect (harg3.unread xs0)) 12 (Nat.le_refl _)) rfl ?_
  rw [load_block arg1 harg1 x0]
  exact congrArg (fun a => stores x0 a 12 (Nat.le_refl _)) (funext fun j => funext fun hj => load_sums arg3 harg3 xs0 (place j hj))

theorem stores_C (hc0 : ¬cond0_0 i) (hc1 : cond0_1 i) :
    (kernelRun0_C (F := Ideal) c i arg1 harg1 arg2 harg2 arg3 harg3 hc0 hc1 x0 xs0).2.1
      = stores x0 (fun j hj => View.ld (Val := Elt Ideal) (e' := .f32) xs0 (place j hj)) 12 (Nat.le_refl _) := by
  refine Eq.trans (b := stores (View.readAt (Elt Ideal) arg1.view (Rect.unit (s := S512x8192) ![0, 0] S512x8192.size
    inb_S512x8192_S512x8192_0_0).toLoadRect (harg1.unread x0))
    (fun j hj => View.readAt (Elt Ideal) arg3.view (place j hj).toLoadRect (harg3.unread xs0)) 12 (Nat.le_refl _)) rfl ?_
  rw [load_block arg1 harg1 x0]
  exact congrArg (fun a => stores x0 a 12 (Nat.le_refl _)) (funext fun j => funext fun hj => load_sums arg3 harg3 xs0 (place j hj))

/-- The stores of the first step: the zero fill, then as the others, each reading through the stores before it. -/
def first (V : View sig .tc .vmem S12x16x8192 .f32) (g : Vec Ideal S512x8192 .f32) : (n : ℕ) → n ≤ 12 →
    List (View.Piece (Elt Ideal) S12x16x8192 .f32)
  | 0, _ => [⟨Rect.unit (s := S12x16x8192) ![0, 0, 0] S12x16x8192.size inb_S12x16x8192_S12x16x8192_0_0_0, k0_pay19 (F := Ideal)⟩]
  | n + 1, h => store g n h (V.readCov (first V g n (Nat.le_of_succ_le h)) (place n h).toLoadRect) :: first V g n (Nat.le_of_succ_le h)

/-- A load of a threshold whose store is still to come reads the zero fill. -/
theorem load_first (V : View sig .tc .vmem S12x16x8192 .f32) (g : Vec Ideal S512x8192 .f32) (j : ℕ) (hj : j < 12) (n : ℕ) (h : n ≤ 12)
    (hn : n ≤ j) : V.readCov (first V g n h) (place j hj).toLoadRect
      = View.ld (Val := Elt Ideal) (e' := .f32) (k0_pay19 (F := Ideal)) (place j hj) := by
  induction n with
  | zero =>
    exact View.readCov_fill (Val := Elt Ideal) (e := .f32) V inb_S12x16x8192_S12x16x8192_0_0_0 (k0_pay19 (F := Ideal)) [] (place j hj)
      (fun a => match a with | ⟨0, _⟩ => rfl | ⟨1, _⟩ => rfl | ⟨2, _⟩ => rfl)
  | succ n ih =>
    rw [← ih (Nat.le_of_succ_le h) (Nat.le_of_succ_le hn), View.readCov_eq_canon', View.readCov_eq_canon']
    funext x
    refine View.canon_cons_of_not_mem _ _ fun hm => ?_
    have e := (mem_place n h _).mp hm
    have e' : j + 1 * (x 0).val = n := e
    omega

theorem first_eq (V : View sig .tc .vmem S12x16x8192 .f32) (g : Vec Ideal S512x8192 .f32) (n : ℕ) (h : n ≤ 12) :
    first V g n h = stores g (fun j hj => View.ld (Val := Elt Ideal) (e' := .f32) (k0_pay19 (F := Ideal)) (place j hj)) n h
      ++ first V g 0 (Nat.zero_le _) := by
  induction n with
  | zero => rfl
  | succ n ih =>
    have e := ih (Nat.le_of_succ_le h)
    have l := load_first V g n h n (Nat.le_of_succ_le h) (Nat.le_refl _)
    show store g n h _ :: first V g n _ = store g n h _ :: (_ ++ _)
    rw [l, ← e]

theorem stores_A (hc0 : cond0_0 i) (hc1 : ¬cond0_1 i) :
    (kernelRun0_A (F := Ideal) c i arg1 harg1 arg2 harg2 arg3 harg3 hc0 hc1 x0).2.1 = first arg3.view x0 12 (Nat.le_refl _) := by
  refine Eq.trans (b := first arg3.view (View.readAt (Elt Ideal) arg1.view (Rect.unit (s := S512x8192) ![0, 0] S512x8192.size
    inb_S512x8192_S512x8192_0_0).toLoadRect (harg1.unread x0)) 12 (Nat.le_refl _)) rfl ?_
  rw [load_block arg1 harg1 x0]

/-- What each kind of step leaves in the scratch. -/
theorem sout_A (hc0 : cond0_0 i) (hc1 : ¬cond0_1 i) :
    sout0_A_0 (F := Ideal) c i arg1 harg1 arg2 harg2 arg3 harg3 hc0 hc1 x0 = stepped (k0_pay19 (F := Ideal)) x0 := by
  unfold sout0_A_0
  rw [View.read_writes_junk_eq_canon, stores_A, first_eq]
  exact canon_stores _ _ _

theorem sout_B (hc0 : ¬cond0_0 i) (hc1 : ¬cond0_1 i) :
    sout0_B_0 (F := Ideal) c i arg1 harg1 arg2 harg2 arg3 harg3 hc0 hc1 x0 xs0 = stepped xs0 x0 := by
  unfold sout0_B_0
  rw [View.read_writes_junk_eq_canon, stores_B, ← List.append_nil (stores _ _ _ _)]
  exact canon_stores _ _ _

theorem sout_C (hc0 : ¬cond0_0 i) (hc1 : cond0_1 i) :
    sout0_C_0 (F := Ideal) c i arg1 harg1 arg2 harg2 arg3 harg3 hc0 hc1 x0 xs0 = stepped xs0 x0 := by
  unfold sout0_C_0
  rw [View.read_writes_junk_eq_canon, stores_C, ← List.append_nil (stores _ _ _ _)]
  exact canon_stores _ _ _

/-- The total of one threshold, as the last step reads it off the scratch it has just updated. -/
def tally (S : Vec Ideal S12x16x8192 .f32) (j : ℕ) (hj : j < 12) : BitVec 32 :=
  extractAt ![0, 0, 0] (k0_pay3 (F := Ideal) (View.ld (Val := Elt Ideal) (e' := .f32) S (place j hj))) inpos_S1x1x1_p0_0_0

/-- The last step's output from the scratch it has just updated. -/
def answer (S : Vec Ideal S12x16x8192 .f32) : Vec Ideal S1x8 .f32 :=
  k0_pay2 (F := Ideal) (tally S 9 (by decide)) (tally S 10 (by decide)) (tally S 11 (by decide))
    (k0_pay16 (tally S 0 (by decide)) (tally S 1 (by decide)) (tally S 2 (by decide)) (tally S 3 (by decide)))
    (k0_pay17 (tally S 4 (by decide)) (tally S 5 (by decide)) (tally S 6 (by decide)) (tally S 7 (by decide))
      (Scalar.cmpi .sle (tally S 4 (by decide)) 33554432#32))
    (k0_pay18 (tally S 8 (by decide)) (tally S 9 (by decide)))

/-- The same, with each total's load through the list `L` of the step's stores. -/
def answerOf (V : View sig .tc .vmem S12x16x8192 .f32) (L : List (View.Piece (Elt Ideal) S12x16x8192 .f32)) : Vec Ideal S1x8 .f32 :=
  let T (j : ℕ) (hj : j < 12) : BitVec 32 := extractAt ![0, 0, 0] (k0_pay3 (F := Ideal) (V.readCov L (place j hj).toLoadRect)) inpos_S1x1x1_p0_0_0
  k0_pay2 (F := Ideal) (T 9 (by decide)) (T 10 (by decide)) (T 11 (by decide))
    (k0_pay16 (T 0 (by decide)) (T 1 (by decide)) (T 2 (by decide)) (T 3 (by decide)))
    (k0_pay17 (T 4 (by decide)) (T 5 (by decide)) (T 6 (by decide)) (T 7 (by decide)) (Scalar.cmpi .sle (T 4 (by decide)) 33554432#32))
    (k0_pay18 (T 8 (by decide)) (T 9 (by decide)))

theorem answerOf_stores (V : View sig .tc .vmem S12x16x8192 .f32) (acc : Vec Ideal S12x16x8192 .f32) (g : Vec Ideal S512x8192 .f32) :
    answerOf V (stores g (fun j hj => View.ld (Val := Elt Ideal) (e' := .f32) acc (place j hj)) 12 (Nat.le_refl _)) = answer (stepped acc g) := by
  have e : ∀ (j : ℕ) (hj : j < 12), V.readCov (stores g (fun j hj => View.ld (Val := Elt Ideal) (e' := .f32) acc (place j hj)) 12 (Nat.le_refl _))
      (place j hj).toLoadRect = View.ld (Val := Elt Ideal) (e' := .f32) (stepped acc g) (place j hj) := by
    intro j hj
    have h := canon_stores acc g []
    rw [List.append_nil] at h
    rw [View.readCov_eq_canon', h]
  unfold answerOf
  simp only [e]
  rfl

theorem out_C (hc0 : ¬cond0_0 i) (hc1 : cond0_1 i) :
    out0_C_1 (F := Ideal) c i arg1 harg1 arg2 harg2 arg3 harg3 hc0 hc1 x0 xs0 = answer (stepped xs0 x0) := by
  unfold out0_C_1
  rw [View.read_writes_junk_eq_canon, ← answerOf_stores arg3.view, ← stores_C c i arg1 harg1 arg2 harg2 arg3 harg3 x0 xs0 hc0 hc1]
  exact View.canon_unit_zero (S := S1x8) hz2 _ _

end Run

section Steps

variable (m : (ℓ : Loc nD τ sig) → Buf (Elt Ideal) ℓ) (c : Dev nD)

/-- The gradients the program was launched on. -/
abbrev grads : Whole.Idx → EReal := V m c main_arg1

/-- A sum's place among the sums of one threshold. -/
def inSum (y : S12x16x8192.Idx) : Sums.Idx := fun b => match b with
  | ⟨0, _⟩ => ⟨0, Nat.one_pos⟩
  | ⟨1, _⟩ => ⟨(y 1).val, (y 1).isLt⟩
  | ⟨2, _⟩ => ⟨(y 2).val, (y 2).isLt⟩

theorem idx0 : ∀ t : Fin cfg0.N, win0_0.index t (0 : Fin 2) = t.val ∧ win0_0.index t (1 : Fin 2) = 0 :=
  (by decide +kernel : ∀ t : Fin grid0.N, _)

/-- A step's block is its 512 rows of the gradients. -/
theorem block_at (t : Fin cfg0.N) (ht : t.val < 16) (k : ℕ) (hk : k < 32) (j : Sums.Idx) (r q : ℕ) (hr : r = (j 1).val) (hq : q = (j 2).val)
    (h : 16 * k + r < 512 ∧ q < 8192) :
    iblk m c 0 t (rowCol (16 * k + r) q h) = grads m c (place3 t.val k ht hk j) := by
  obtain ⟨e0, e1⟩ := idx0 t
  refine congrArg (V m c main_arg1) (funext fun a => Fin.ext ?_)
  match a with
  | ⟨0, _⟩ => show win0_0.index t (0 : Fin 2) * 512 + 1 * (16 * k + r) = 512 * t.val + (16 * k + (j 1).val); omega
  | ⟨1, _⟩ => show win0_0.index t (1 : Fin 2) * 8192 + 1 * q = (j 2).val; omega

/-- What a step adds to a sum. -/
theorem gained_block (s : EReal) (t : Fin cfg0.N) (y : S12x16x8192.Idx) :
    gained s (iblk m c 0 t) (y 1).val (y 2).val = ((blockHits s (grads m c) t.val (inSum y) : ℕ) : EReal) := by
  have ht : t.val < 16 := lt_of_lt_of_eq t.isLt N_0
  unfold gained blockHits
  rw [dif_pos ht, Finset.sum_range, Nat.cast_sum]
  refine Finset.sum_congr rfl fun k _ => ?_
  have h1 : (y 1).val < 16 := (y 1).isLt
  have h2 : (y 2).val < 8192 := (y 2).isLt
  have hk := k.isLt
  unfold entry
  rw [dif_pos ⟨by omega, h2⟩]
  exact congrArg (fun v : EReal => ((hit s v : ℕ) : EReal))
    (block_at m c t ht k.val k.isLt (inSum y) (y 1).val (y 2).val rfl rfl ⟨by omega, h2⟩)

/-- The scratch after a step: each threshold's hits in the blocks so far. -/
def held (n : ℕ) : Vec Ideal S12x16x8192 .f32 := fun y =>
  ((∑ i ∈ Finset.range (n + 1), blockHits (lvl (y 0).val) (grads m c) i (inSum y) : ℕ) : EReal)

theorem zero_at (y : S12x16x8192.Idx) : k0_pay19 (F := Ideal) y = 0 := by
  show Ideal.ofBits .f32 0x00000000#32 = 0
  simp [Ideal.ofBits, Ideal.ieee]

theorem stepped_zero (t : Fin cfg0.N) (h : t.val = 0) : stepped (k0_pay19 (F := Ideal)) (iblk m c 0 t) = held m c 0 := by
  funext y
  unfold stepped held
  rw [zero_at, zero_add, gained_block, h, Finset.sum_range_one]

theorem stepped_succ (t : Fin cfg0.N) (n : ℕ) (h : t.val = n + 1) : stepped (held m c n) (iblk m c 0 t) = held m c (n + 1) := by
  funext y
  unfold stepped held
  rw [gained_block, h, Finset.sum_range_succ _ (n + 1), Nat.cast_add]

/-- The scratch after the first step, and after a later one from the scratch before it. -/
theorem scratch_first (t : Fin cfg0.N) (h0 : t.val % 16 = 0) (h1 : ¬t.val % 16 = 15) :
    (outsAt0 m c t.val t.isLt).2 = stepped (k0_pay19 (F := Ideal)) (iblk m c 0 t) := by
  rw [outsAt0_A m c t h0 h1]
  dsimp only
  rw [sout_A]

theorem scratch_next (t : Fin cfg0.N) (h0 : ¬t.val % 16 = 0) :
    (outsAt0 m c t.val t.isLt).2
      = stepped (outsAt0 m c (t.val - 1) (Nat.lt_of_le_of_lt (Nat.sub_le ..) t.isLt)).2 (iblk m c 0 t) := by
  by_cases h1 : t.val % 16 = 15
  · rw [outsAt0_C m c t h0 h1]
    dsimp only
    rw [sout_C]
  · rw [outsAt0_B m c t h0 h1]
    dsimp only
    rw [sout_B]

theorem scratch_zero (hn : 0 < cfg0.N) : (outsAt0 m c 0 hn).2 = held m c 0 := by
  have e := scratch_first m c ⟨0, hn⟩ (Nat.zero_mod _) (by simp)
  rw [stepped_zero m c ⟨0, hn⟩ rfl] at e
  exact e

theorem scratch_succ (n : ℕ) (hn : n + 1 < cfg0.N) (ih : (outsAt0 m c n (Nat.lt_of_succ_lt hn)).2 = held m c n) :
    (outsAt0 m c (n + 1) hn).2 = held m c (n + 1) := by
  have hN : cfg0.N = 16 := N_0
  have h0 : ¬(n + 1) % 16 = 0 := by omega
  have e := scratch_next m c ⟨n + 1, hn⟩ h0
  have e' : (outsAt0 m c (n + 1 - 1) (Nat.lt_of_le_of_lt (Nat.sub_le ..) hn)).2 = held m c n := ih
  rw [e', stepped_succ m c ⟨n + 1, hn⟩ n rfl] at e
  exact e

/-- The scratch after every step. -/
theorem scratch (n : ℕ) (hn : n < cfg0.N) : (outsAt0 m c n hn).2 = held m c n := by
  induction n with
  | zero => exact scratch_zero m c hn
  | succ n ih => exact scratch_succ m c n hn (ih _)

/-- The sum of one threshold's sums, each taken as a word. -/
theorem total (a : Vec Ideal S1x16x8192 .f32) :
    extractAt ![0, 0, 0] (k0_pay3 (F := Ideal) a) inpos_S1x1x1_p0_0_0 = ∑ j : Sums.Idx, Ideal.fptosi 32 (a j) := by
  have e : shapeCast S1x16x8192 (fptosi (F := Ideal) (φ := .f32) 32 (shapeCast S16x8192 a shapeCasts_S1x16x8192_S16x8192)) shapeCasts_S16x8192_S1x16x8192
      = fun j : Sums.Idx => Ideal.fptosi 32 (a j) := by
    funext j
    refine (shapeCast_addUnit_apply ![16, 8192] _ shapeCasts_S16x8192_S1x16x8192 j).trans ?_
    refine congrArg (Ideal.fptosi 32) ((shapeCast_dropUnit_apply ![16, 8192] a shapeCasts_S1x16x8192_S16x8192 (fun b => j b.succ)).trans
      (congrArg a ?_))
    funext b
    refine Fin.cases ?_ (fun b => rfl) b
    apply Fin.ext
    have := (j 0).isLt
    simp at this
    show 0 = (j 0).val
    omega
  have r (k : S1.Idx) : multiReductionI .add [1, 2] S1 (fun j : Sums.Idx => Ideal.fptosi 32 (a j)) 0#32 reduces_S1x16x8192_S1 rfl k
      = ∑ j : Sums.Idx, Ideal.fptosi 32 (a j) := by
    refine (congrFun (multiReductionI_eq_reduceFold .add _ 0#32 reduces_S1x16x8192_S1 rfl) k).trans ?_
    show reduceFold reduces_S1x16x8192_S1 (· + ·) (0#32 : BitVec 32) _ k = _
    rw [reduceFold_add_eq_sum, show (0#32 : BitVec 32) = 0 from rfl, zero_add]
    refine Finset.sum_congr (Finset.filter_true_of_mem fun i _ => ?_) fun _ _ => rfl
    funext b
    match b with
    | ⟨0, _⟩ => exact Fin.ext (by
        have h1 := (reduces_S1x16x8192_S1.drop i 0).isLt
        have h2 := (k 0).isLt
        have h1' : (reduces_S1x16x8192_S1.drop i 0).val < 1 := h1
        have h2' : (k 0).val < 1 := h2
        show (reduces_S1x16x8192_S1.drop i 0).val = (k 0).val
        omega)
  unfold k0_pay3
  dsimp only
  rw [e]
  unfold extractAt shapeCast
  exact r _

/-- After the last step the total of threshold `j` is its count over all the gradients. -/
theorem total_held (j : ℕ) (hj : j < 12) :
    extractAt ![0, 0, 0] (k0_pay3 (F := Ideal) (View.ld (Val := Elt Ideal) (e' := .f32) (held m c 15) (place j hj))) inpos_S1x1x1_p0_0_0
      = count (lvl j) (grads m c) := by
  rw [total, ← sum_blocks]
  refine Finset.sum_congr rfl fun x _ => congrArg (Ideal.fptosi 32) ?_
  show held m c 15 ((place j hj).emb x) = _
  have h0 : (x 0).val = 0 := by have := (x 0).isLt; simp at this; omega
  have e0 : (((place j hj).emb x) 0).val = j := by
    show j + 1 * (x 0).val = j; omega
  have e1 : inSum ((place j hj).emb x) = x := by
    funext b
    apply Fin.ext
    match b with
    | ⟨0, _⟩ => exact h0.symm
    | ⟨1, _⟩ => show 0 + 1 * (x 1).val = (x 1).val; omega
    | ⟨2, _⟩ => show 0 + 1 * (x 2).val = (x 2).val; omega
  unfold held
  rw [e0, e1]

/-- A word of the stored row of eight. -/
def word8 (k : Fin 8) : S8.Idx := fun a => match a with | ⟨0, _⟩ => k

/-- Eight words laid end to end, read at one of them. -/
theorem row8 (q : Fin 8 → EReal)
    (h : Shape.Concatenates ((List.ofFn fun n : Fin 8 => (⟨S1, broadcast S1 (q n)⟩ : (s : Shape) × (s.Idx → EReal))).map (·.1)) S8 0)
    (j : S8.Idx) : concatenate S8 0 (List.ofFn fun n : Fin 8 => (⟨S1, broadcast S1 (q n)⟩ : (s : Shape) × (s.Idx → EReal))) h j = q (j 0) :=
  concatenate_ofFn_unit_apply (t := S8) (s₁ := S1) 0 (fun n => broadcast S1 (q n)) h rfl rfl j (j 0) rfl
    (fun b => match b with | ⟨0, _⟩ => ⟨0, Nat.one_pos⟩) (fun b hb => match b, hb with | ⟨0, _⟩, hb => absurd rfl hb)

/-- The last step's row: three estimates, then zeros. -/
def rowOf (q₁ q₂ q₃ : EReal) : Fin 8 → EReal
  | 0 => q₁
  | 1 => q₂
  | 2 => q₃
  | _ => Ideal.ofBits .f32 0x00000000#32

/-- The last step's row, read at one of its words. -/
theorem pay2_apply (c₁ c₂ c₃ : BitVec 32) (q₁ q₂ r : EReal) (j : S1x8.Idx) :
    k0_pay2 (F := Ideal) c₁ c₂ c₃ q₁ q₂ r j
      = rowOf q₁ q₂ (Scalar.select (Scalar.cmpi .sle c₂ 50331648#32)
          (within (Ideal.ofBits .f32 0x4C400000#32) (Ideal.ofBits .f32 0x3C800000#32) (Ideal.ofBits .f32 0x3F948000#32) c₂ c₃)
          (Scalar.select (Scalar.cmpi .sle c₁ 50331648#32)
            (within (Ideal.ofBits .f32 0x4C400000#32) (Ideal.ofBits .f32 0x3C800000#32) (Ideal.ofBits .f32 0x3F928000#32) c₁ c₂) r))
          (j 1) := by
  refine Eq.trans ?_ (row8 (rowOf q₁ q₂ (Scalar.select (Scalar.cmpi .sle c₂ 50331648#32)
          (within (Ideal.ofBits .f32 0x4C400000#32) (Ideal.ofBits .f32 0x3C800000#32) (Ideal.ofBits .f32 0x3F948000#32) c₂ c₃)
          (Scalar.select (Scalar.cmpi .sle c₁ 50331648#32)
            (within (Ideal.ofBits .f32 0x4C400000#32) (Ideal.ofBits .f32 0x3C800000#32) (Ideal.ofBits .f32 0x3F928000#32) c₁ c₂) r)))
    concatenates_S1_S1_S1_S1_S1_S1_S1_S1_S8_d0 (fun a => j a.succ))
  unfold k0_pay2
  exact shapeCast_addUnit_apply ![8] _ shapeCasts_S8_S1x8 j

/-- The three estimates, as the last step stores them and the reshape hands them on. -/
theorem answer_eq (k : Fin 8) : shapeCast S8 (answer (held m c 15)) shapeCasts_S1x8_S8 (word8 k)
      = rowOf (quartile₁ (grads m c)) (quartile₂ (grads m c)) (quartile₃ (grads m c)) k := by
  have e (j : ℕ) (hj : j < 12) : tally (held m c 15) j hj = count (lvl j) (grads m c) := total_held m c j hj
  refine (shapeCast_dropUnit_apply ![8] (answer (held m c 15)) shapeCasts_S1x8_S8 (word8 k)).trans ?_
  unfold answer
  simp only [e]
  refine (pay2_apply _ _ _ _ _ _ _).trans ?_
  rfl

/-! ## What the call leaves -/

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S1x8.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 8 + 1 * (j 1).val = (j 1).val; omega

theorem last_out (t : Fin cfg0.N) (ht : t.val = 15) : (outsAt0 m c t.val t.isLt).1 = answer (held m c 15) := by
  have h0 : ¬t.val % 16 = 0 := by omega
  have h1 : t.val % 16 = 15 := by omega
  have e := scratch m c (t.val - 1) (Nat.lt_of_le_of_lt (Nat.sub_le ..) t.isLt)
  have s := stepped_succ m c t 14 (by omega)
  rw [outsAt0_C m c t h0 h1]
  dsimp only
  rw [out_C, e, show t.val - 1 = 14 by omega, s]

theorem flushed1 (t : Fin cfg0.N) : (dat m c).flushed 1 t = (cfg0.win 1).cut (grid0.coords t) (outsAt0 m c t.val t.isLt).1 := by
  show (cfg0.win 1).cut (grid0.coords t) ((dat m c).after 1 t) = _
  rw [after0_1]

theorem flushed_eq (t : Fin cfg0.N) (hf : (cfg0.win 1).flush t = true) :
    (dat m c).flushed 1 t = ((cfg0.win 1).blk t).view.read (Elt Ideal) (answer (held m c 15)) := by
  have ht : t.val = 15 := by
    have h := (flush0_1 t).mp hf
    have : t.val < 16 := lt_of_lt_of_eq t.isLt N_0
    omega
  rw [flushed1, last_out m c t ht]
  funext j
  show answer (held m c 15) j = answer (held m c 15) (((cfg0.win 1).blk t).view.emb j)
  rw [emb1]

/-- The first call's output. -/
theorem counts_final : (dat m c).arrAt 1 cfg0.N = answer (held m c 15) := by
  refine (dat m c).arrAt_eq_of_cover 1 (answer (held m c 15)) (fun t hf => flushed_eq m c t hf) fun i => ?_
  have h15 : 15 < cfg0.N := by rw [show cfg0.N = 16 from N_0]; decide
  refine ⟨⟨15, h15⟩, (flush0_1 _).mpr rfl, ?_⟩
  exact (congrArg (· ∈ _) (emb1 ⟨15, h15⟩ i)).mp (((cfg0.win 1).blk ⟨15, h15⟩).view.emb_mem_set i)

end Steps

end Cert.WholeIdeal.Counts

end
-- ==== Proof.WholeReference.lean ====
/- The whole reference's result at an index: the three quartile estimates from the counts, and the value there quantised at the
   format that the magnitude of the gradient there chooses between them. -/
module

public import proofs.«01_k».proof.Proof.Counting
public import proofs.«01_k».proof.Proof.QuantElem
public import proofs.«01_k».proof.Proof.Gen.WholeReferenceIdeal.Read

@[expose] public section

set_option maxRecDepth 16384

noncomputable section

namespace Cert.WholeReferenceIdeal.Elem

open Cert.WholeReferenceIdeal Cert.WholeReferenceIdeal.Gen Cert.WholeReferenceIdeal.Read Idealize.ShloMosaic Quant

/-! ## The counts -/

/-- A left fold of word additions is the first word plus the sum. -/
theorem foldl_addi {ι : Type} (f : ι → BitVec 32) (l : List ι) (c : BitVec 32) :
    l.foldl (fun r n => IntOp.addi r (f n)) c = c + (l.map f).sum := by
  induction l generalizing c with
  | nil => simp
  | cons n l ih =>
    rw [List.foldl_cons, ih, List.map_cons, List.sum_cons]
    exact add_assoc c (f n) _

/-- A sum of words over the whole array, from zero. -/
theorem sum_all (e : S8192x8192.Idx → BitVec 32) (z : S_.Idx → BitVec 32) (hz : ∀ k, z k = 0#32) (j : S_.Idx) :
    Host.reduce IntOp.addi e z reducesTo_S8192x8192_S_d0_1 h_S_ j = ∑ i, e i := by
  unfold Host.reduce
  rw [List.filter_eq_self.mpr (fun n _ => decide_eq_true (funext fun a => a.elim0)), foldl_addi, hz,
    show (0#32 : BitVec 32) = 0 from rfl, zero_add, ← Fin.sum_univ_def]
  exact Equiv.sum_comp S8192x8192.rowMajor.symm e

/-- The number of gradients whose magnitude is at most `t`, from the array of widened comparisons. -/
theorem count_of (t : EReal) (g : Whole.Idx → EReal) (e : S8192x8192.Idx → BitVec 32) (z : S_.Idx → BitVec 32)
    (he : ∀ i, e i = (Ideal.cmp .ole (max (g i) (-g i)) t).setWidth 32) (hz : ∀ k, z k = 0#32) (j : S_.Idx) :
    Host.reduce IntOp.addi e z reducesTo_S8192x8192_S_d0_1 h_S_ j = count t g := by
  rw [sum_all e z hz j]
  exact Finset.sum_congr rfl fun i _ => (he i).trans (setWidth_ole t (g i))

/-- The twelve thresholds as single-precision words. -/
def wide (j : ℕ) : EReal := Ideal.ofBits .f32
  (([0x3E970000#32, 0x3E9F0000#32, 0x3EA70000#32, 0x3EAF0000#32, 0x3F270000#32, 0x3F2B0000#32, 0x3F2F0000#32, 0x3F330000#32,
    0x3F900000#32, 0x3F920000#32, 0x3F940000#32, 0x3F960000#32] : List (BitVec 32)).getD j 0#32)

/-- The two spellings of a threshold are one number. -/
theorem wide_eq (j : ℕ) (hj : j < 12) : wide j = lvl j := by
  unfold wide lvl
  interval_cases j <;> · simp [Ideal.ofBits, Ideal.ieee, -EReal.coe_mul]; norm_num

variable (x0 x1 : (⟨S8192x8192, .f32⟩ : BufTy).Contents (Elt Ideal)) (i : S8192x8192.Idx) (k : S_.Idx)

theorem count0 : val_main_v7 (F := Ideal) x1 k = count (lvl 0) x1 :=
  wide_eq 0 (by decide) ▸ count_of (wide 0) x1 (val_main_v6 (F := Ideal) x1) (val_main_c (F := Ideal))
    (fun i => by rw [val_main_v6_apply, val_main_v5_apply, val_main_v4_apply]; rfl) (fun _ => rfl) k

theorem count1 : val_main_v11 (F := Ideal) x1 k = count (lvl 1) x1 :=
  wide_eq 1 (by decide) ▸ count_of (wide 1) x1 (val_main_v10 (F := Ideal) x1) (val_main_c_1 (F := Ideal))
    (fun i => by rw [val_main_v10_apply, val_main_v9_apply, val_main_v8_apply]; rfl) (fun _ => rfl) k

theorem count2 : val_main_v15 (F := Ideal) x1 k = count (lvl 2) x1 :=
  wide_eq 2 (by decide) ▸ count_of (wide 2) x1 (val_main_v14 (F := Ideal) x1) (val_main_c_3 (F := Ideal))
    (fun i => by rw [val_main_v14_apply, val_main_v13_apply, val_main_v12_apply]; rfl) (fun _ => rfl) k

theorem count3 : val_main_v19 (F := Ideal) x1 k = count (lvl 3) x1 :=
  wide_eq 3 (by decide) ▸ count_of (wide 3) x1 (val_main_v18 (F := Ideal) x1) (val_main_c_5 (F := Ideal))
    (fun i => by rw [val_main_v18_apply, val_main_v17_apply, val_main_v16_apply]; rfl) (fun _ => rfl) k

theorem count4 : val_main_v53 (F := Ideal) x1 k = count (lvl 4) x1 :=
  wide_eq 4 (by decide) ▸ count_of (wide 4) x1 (val_main_v52 (F := Ideal) x1) (val_main_c_23 (F := Ideal))
    (fun i => by rw [val_main_v52_apply, val_main_v51_apply, val_main_v50_apply]; rfl) (fun _ => rfl) k

theorem count5 : val_main_v57 (F := Ideal) x1 k = count (lvl 5) x1 :=
  wide_eq 5 (by decide) ▸ count_of (wide 5) x1 (val_main_v56 (F := Ideal) x1) (val_main_c_25 (F := Ideal))
    (fun i => by rw [val_main_v56_apply, val_main_v55_apply, val_main_v54_apply]; rfl) (fun _ => rfl) k

theorem count6 : val_main_v61 (F := Ideal) x1 k = count (lvl 6) x1 :=
  wide_eq 6 (by decide) ▸ count_of (wide 6) x1 (val_main_v60 (F := Ideal) x1) (val_main_c_27 (F := Ideal))
    (fun i => by rw [val_main_v60_apply, val_main_v59_apply, val_main_v58_apply]; rfl) (fun _ => rfl) k

theorem count7 : val_main_v65 (F := Ideal) x1 k = count (lvl 7) x1 :=
  wide_eq 7 (by decide) ▸ count_of (wide 7) x1 (val_main_v64 (F := Ideal) x1) (val_main_c_29 (F := Ideal))
    (fun i => by rw [val_main_v64_apply, val_main_v63_apply, val_main_v62_apply]; rfl) (fun _ => rfl) k

theorem count8 : val_main_v99 (F := Ideal) x1 k = count (lvl 8) x1 :=
  wide_eq 8 (by decide) ▸ count_of (wide 8) x1 (val_main_v98 (F := Ideal) x1) (val_main_c_47 (F := Ideal))
    (fun i => by rw [val_main_v98_apply, val_main_v97_apply, val_main_v96_apply]; rfl) (fun _ => rfl) k

theorem count9 : val_main_v103 (F := Ideal) x1 k = count (lvl 9) x1 :=
  wide_eq 9 (by decide) ▸ count_of (wide 9) x1 (val_main_v102 (F := Ideal) x1) (val_main_c_49 (F := Ideal))
    (fun i => by rw [val_main_v102_apply, val_main_v101_apply, val_main_v100_apply]; rfl) (fun _ => rfl) k

theorem count10 : val_main_v107 (F := Ideal) x1 k = count (lvl 10) x1 :=
  wide_eq 10 (by decide) ▸ count_of (wide 10) x1 (val_main_v106 (F := Ideal) x1) (val_main_c_51 (F := Ideal))
    (fun i => by rw [val_main_v106_apply, val_main_v105_apply, val_main_v104_apply]; rfl) (fun _ => rfl) k

theorem count11 : val_main_v111 (F := Ideal) x1 k = count (lvl 11) x1 :=
  wide_eq 11 (by decide) ▸ count_of (wide 11) x1 (val_main_v110 (F := Ideal) x1) (val_main_c_53 (F := Ideal))
    (fun i => by rw [val_main_v110_apply, val_main_v109_apply, val_main_v108_apply]; rfl) (fun _ => rfl) k

/-! ## The estimates -/

theorem estimate₁ : val_main_v49 (F := Ideal) x1 k = quartile₁ x1 := by
  unfold quartile₁
  rw [← count0 x1 k, ← count1 x1 k, ← count2 x1 k, ← count3 x1 k]
  rfl

theorem estimate₂ : val_main_v95 (F := Ideal) x1 k = quartile₂ x1 := by
  unfold quartile₂
  rw [← count4 x1 k, ← count5 x1 k, ← count6 x1 k, ← count7 x1 k]
  rfl

theorem estimate₃ : val_main_v141 (F := Ideal) x1 k = quartile₃ x1 := by
  unfold quartile₃
  rw [← count8 x1 k, ← count9 x1 k, ← count10 x1 k, ← count11 x1 k]
  rfl

/-! ## The quantised values -/

theorem quant0 : val_main_v173 (F := Ideal) x0 i = kElem (((Real.log 2)⁻¹ : ℝ) : EReal) 5#32 (x0 i) := by
  rw [elem0]; rfl

theorem quant1 : val_main_v205 (F := Ideal) x0 i = kElem (((Real.log 2)⁻¹ : ℝ) : EReal) 4#32 (x0 i) := by
  rw [elem1]; rfl

theorem quant2 : val_main_v237 (F := Ideal) x0 i = kElem (((Real.log 2)⁻¹ : ℝ) : EReal) 2#32 (x0 i) := by
  rw [elem2]; rfl

theorem quant3 : val_main_v269 (F := Ideal) x0 i = kElem (((Real.log 2)⁻¹ : ℝ) : EReal) 1#32 (x0 i) := by
  rw [elem3]; rfl

/-- Selecting by "at most" one way is selecting by "more than" the other way round. -/
theorem select_swap {α : Type} (q a : EReal) (u v : α) :
    Scalar.select (Ideal.cmp .ole a q) u v = Scalar.select (Ideal.cmp .ogt a q) v u := by
  classical
  rw [select_ole, select_ogt]
  by_cases h : a ≤ q
  · rw [if_pos h, if_neg (not_lt.mpr h)]
  · rw [if_neg h, if_pos (not_le.mp h)]

/-- A choice of the format's width commutes with quantising. -/
theorem kElem_select (c x : EReal) (b : BitVec 1) (u v : BitVec 32) :
    kElem c (Scalar.select b u v) x = Scalar.select b (kElem c u x) (kElem c v x) := by
  unfold Scalar.select
  split <;> rfl

/-- The reference's result at an index. -/
theorem result_apply : val_main_v278 (F := Ideal) x0 x1 i
    = kElem (((Real.log 2)⁻¹ : ℝ) : EReal) (bitsOf (quartile₁ x1) (quartile₂ x1) (quartile₃ x1) (x1 i)) (x0 i) := by
  rw [val_main_v278_apply, val_main_v277_apply, val_main_v276_apply, val_main_v271_apply, val_main_v273_apply,
    val_main_v275_apply, val_main_v270_apply, val_main_v272_apply, val_main_v274_apply, estimate₁, estimate₂, estimate₃,
    quant0, quant1, quant2, quant3, val_main_v0_apply]
  show Scalar.select (Ideal.cmp .ole (max (x1 i) (-x1 i)) _) _ (Scalar.select (Ideal.cmp .ole (max (x1 i) (-x1 i)) _) _
    (Scalar.select (Ideal.cmp .ole (max (x1 i) (-x1 i)) _) _ _)) = _
  unfold bitsOf
  rw [kElem_select, kElem_select, kElem_select, select_swap, select_swap, select_swap]

end Cert.WholeReferenceIdeal.Elem
-- ==== Proof.WholeClaim.lean ====
/- The claims about the whole kernel, both calls and the reshape between them: its run, what the first call's counts and the
   second call's quantising make of the arguments, and the reference's result, which is the same array. -/
module

public import proofs.«01_k».proof.Defs
public import proofs.«01_k».proof.Proof.WholeRun.Launch
public import proofs.«01_k».proof.Proof.WholeQuant
public import proofs.«01_k».proof.Proof.WholeLadder
public import proofs.«01_k».proof.Proof.WholeReference
public import Idealize.ShloMosaic.Lib.Claim
public import Idealize.ShloMosaic.PureOps.IdealRules

@[expose] public section

noncomputable section

namespace Cert.Proof.Whole

open Idealize.ShloMosaic Idealize.ShloMosaic.TcCoe Idealize.ShloMosaic.StableHlo Idealize.SL.Sem
open Cert.WholeIdeal.Elem (quantised at8)

/-- The whole kernel runs without fault at the machine's floats, keeps its arguments and leaves every counter at zero. -/
theorem frame_kernel : Cert.quiescent_Whole := fun m ρ _ => Cert.Whole.Both.frame m ρ
/-- So does its ideal reading. -/
theorem frame_ideal : Cert.quiescent_WholeIdeal := fun m ρ _ => Cert.WholeIdeal.Both.frame m ρ
/-- The reference runs, keeps its arguments, and declares no semaphore. -/
theorem frame_reference : Cert.quiescent_WholeReferenceIdeal := fun m ρ _ =>
  (θ_run Cert.WholeReferenceIdeal.defs _ _).mono (fun r h => ⟨fun c => (h c).2,
      Idealize.ShloMosaic.sem_eq_zero_of_no_sems (by decide) r.2⟩)
    (Cert.WholeReferenceIdeal.Value.run (F := Ideal) m ρ)

/-- The ideal kernel is the kernel: 1/ln 2 named, and 1.0 with x's sign bit read as a choice by x's sign. -/
theorem preserves : Cert.preserves_Whole_WholeIdeal :=
  ⟨IdealRules.named_const.statement Cert.WholeIdeal.κ "inv_ln2" .f32 0x3FB8AA3B#32 (((Real.log 2)⁻¹ : ℝ) : EReal) rfl,
    IdealRules.sign_bit.statement Cert.WholeIdeal.S128x8192 .f32⟩

section
open Cert.WholeIdeal Cert.WholeIdeal.Gen Cert.WholeIdeal.Both

variable (m : (ℓ : Loc nD τ sig) → Buf (Elt Ideal) ℓ) (c : Dev nD)

/-- The first call's row of estimates, as the second call finds it: eight words. -/
theorem estimates : V2 m (outs₁ m) c (Proc.devRef .tc main_v1)
    = shapeCast S8 (Cert.WholeIdeal.Counts.answer (Cert.WholeIdeal.Counts.held m c 15)) shapeCasts_S1x8_S8 := by
  have e : V1 m (outs₁ m) c (Proc.devRef .tc main_v0)
      = Cert.WholeIdeal.Counts.answer (Cert.WholeIdeal.Counts.held m c 15) := by
    simp only [V1, Function.update_self]
    exact (Pipeline.afterRegion_arr (Ladder.dat m c) (V0 m c) launch0.win.arr_inj 1).trans
      (Cert.WholeIdeal.Counts.counts_final m c)
  rw [← e]
  exact (congrFun (StableHlo.after_cons _ _ _) _).trans (StableHlo.reshape_result' _ _ _ _ _)

/-- The value that the whole kernel leaves: at each index, the value there quantised at the format that the magnitude of the
    gradient there chooses between the three estimates. -/
def leaves : S8192x8192.Idx → EReal := fun i =>
  _root_.Quant.kElem (((Real.log 2)⁻¹ : ℝ) : EReal)
    (_root_.Quant.bitsOf (_root_.Quant.quartile₁ (Cert.WholeIdeal.Counts.grads m c))
      (_root_.Quant.quartile₂ (Cert.WholeIdeal.Counts.grads m c)) (_root_.Quant.quartile₃ (Cert.WholeIdeal.Counts.grads m c))
      (m ((c : Thread nD τ).loc main_arg1) i))
    (m ((c : Thread nD τ).loc main_arg0) i)

/-- The second call finds the values as launched, -/
theorem found_x : Cert.WholeIdeal.Own.Ve1 m (outs₁ m) c main_arg0 = m ((c : Thread nD τ).loc main_arg0) :=
  (V2_of m (outs₁ m) c main_arg0 (by decide)).trans (V1_of m (outs₁ m) c main_arg0 (by decide))
/-- and the gradients, -/
theorem found_g : Cert.WholeIdeal.Own.Ve1 m (outs₁ m) c main_arg1 = m ((c : Thread nD τ).loc main_arg1) :=
  (V2_of m (outs₁ m) c main_arg1 (by decide)).trans (V1_of m (outs₁ m) c main_arg1 (by decide))
/-- and the three estimates first in the row. -/
theorem found_q (k : Fin 8) : Cert.WholeIdeal.Own.Ve1 m (outs₁ m) c main_v1 (at8 k)
    = Cert.WholeIdeal.Counts.rowOf (_root_.Quant.quartile₁ (Cert.WholeIdeal.Counts.grads m c))
        (_root_.Quant.quartile₂ (Cert.WholeIdeal.Counts.grads m c))
        (_root_.Quant.quartile₃ (Cert.WholeIdeal.Counts.grads m c)) k :=
  (congrFun (estimates m c) (at8 k)).trans (Cert.WholeIdeal.Counts.answer_eq m c k)

/-- The row's first three words. -/
theorem row0 (q₁ q₂ q₃ : EReal) : Cert.WholeIdeal.Counts.rowOf q₁ q₂ q₃ 0 = q₁ := rfl
theorem row1 (q₁ q₂ q₃ : EReal) : Cert.WholeIdeal.Counts.rowOf q₁ q₂ q₃ 1 = q₂ := rfl
theorem row2 (q₁ q₂ q₃ : EReal) : Cert.WholeIdeal.Counts.rowOf q₁ q₂ q₃ 2 = q₃ := rfl

theorem found_q₁ : Cert.WholeIdeal.Own.Ve1 m (outs₁ m) c main_v1 (at8 0)
    = _root_.Quant.quartile₁ (Cert.WholeIdeal.Counts.grads m c) := (found_q m c 0).trans (row0 _ _ _)
theorem found_q₂ : Cert.WholeIdeal.Own.Ve1 m (outs₁ m) c main_v1 (at8 1)
    = _root_.Quant.quartile₂ (Cert.WholeIdeal.Counts.grads m c) := (found_q m c 1).trans (row1 _ _ _)
theorem found_q₃ : Cert.WholeIdeal.Own.Ve1 m (outs₁ m) c main_v1 (at8 2)
    = _root_.Quant.quartile₃ (Cert.WholeIdeal.Counts.grads m c) := (found_q m c 2).trans (row2 _ _ _)

/-- Quantising at equal estimates, values and gradients gives equal arrays. -/
theorem quantised_congr {q : FVec Ideal S8 .f32} {x x' g g' : FVec Ideal S8192x8192 .f32} {q₁ q₂ q₃ : EReal}
    (h₁ : q (at8 0) = q₁) (h₂ : q (at8 1) = q₂) (h₃ : q (at8 2) = q₃) (hx : x = x') (hg : g = g') (i : S8192x8192.Idx) :
    quantised q x g i = _root_.Quant.kElem (((Real.log 2)⁻¹ : ℝ) : EReal) (_root_.Quant.bitsOf q₁ q₂ q₃ (g' i)) (x' i) := by
  subst hx hg h₁ h₂ h₃; rfl

/-- What the second call makes of what it finds. -/
theorem made_eq : quantised (Cert.WholeIdeal.Own.Ve1 m (outs₁ m) c main_v1) (Cert.WholeIdeal.Own.Ve1 m (outs₁ m) c main_arg0)
    (Cert.WholeIdeal.Own.Ve1 m (outs₁ m) c main_arg1) = leaves m c :=
  funext fun i => quantised_congr (found_q₁ m c) (found_q₂ m c) (found_q₃ m c) (found_x m c) (found_g m c) i

theorem left_eq : (quantDat m c).arrAt 3 Cert.WholeIdeal.cfg1.N = leaves m c :=
  (Cert.WholeIdeal.Elem.quant_final (Cert.WholeIdeal.Own.Ve1 m (outs₁ m)) c).trans (made_eq m c)

end

/-- Kernel and reference end with the same array, whatever the arguments. -/
theorem algebraic : Cert.algebraic_WholeIdeal_WholeReferenceIdeal := by
  intro m ρ m' ρ' _ hagree
  refine ⟨fun c => leaves m c, (θ_run Cert.WholeIdeal.defs _ _).mono
    (fun _ h c => ⟨(h.1 c).1.trans (left_eq m c), (h.1 c).2⟩) (Cert.WholeIdeal.Both.run m ρ), ?_⟩
  refine (θ_run Cert.WholeReferenceIdeal.defs _ _).mono (fun _ h c => ⟨?_, (h c).2⟩)
    (Cert.WholeReferenceIdeal.Value.run (F := Ideal) m' ρ')
  refine ((h c).1.trans (Cert.WholeReferenceIdeal.Read.val_main_v278_eq (launchContents m' c))).trans ?_
  exact (congrArg₂ (Cert.WholeReferenceIdeal.Read.val_main_v278 (F := Ideal))
    ((launchContents_devRef m' c Cert.WholeReferenceIdeal.main_arg0).trans (hagree c).1)
    ((launchContents_devRef m' c Cert.WholeReferenceIdeal.main_arg1).trans (hagree c).2)).trans
    (funext fun i => Cert.WholeReferenceIdeal.Elem.result_apply _ _ i)

end Cert.Proof.Whole
-- ==== Proof.Exact.lean ====
/- reference.py's own reference, with the quartiles that `jnp.quantile` takes: its result at an index, the precondition at an
   index, and that where the precondition holds the three estimates choose the format that the quartiles choose. The quartiles
   themselves stay as the program states them: nothing below depends on how they are taken. -/
module

public import proofs.«01_k».proof.Pre_estimates_separate
public import proofs.«01_k».proof.Proof.WholeReference
public import proofs.«01_k».proof.Proof.Gen.ExactIdeal.Read

@[expose] public section

set_option maxRecDepth 16384

noncomputable section

namespace Cert.ExactIdeal.Elem

open Cert.ExactIdeal Cert.ExactIdeal.Gen Cert.ExactIdeal.Read Idealize.ShloMosaic Quant

/-- The precondition's side conditions are the two references'. -/
instance facts_pre : Cert.Pre_estimates_separate.Facts where
  shapeCasts_S8192x8192_S67108864 := Cert.ExactIdeal.Gen.shapeCasts_S8192x8192_S67108864
  reducesTo_S67108864_S_d0 := Cert.ExactIdeal.Gen.reducesTo_S67108864_S_d0
  h_S_ := Cert.ExactIdeal.Gen.h_S_
  bcast_S_S1 := Cert.ExactIdeal.Gen.bcast_S_S1
  bcast_S1_S67108864_0 := Cert.ExactIdeal.Gen.bcast_S1_S67108864_0
  bcast_S_S67108864 := Cert.ExactIdeal.Gen.bcast_S_S67108864
  bcast_S_S8192x8192 := Cert.ExactIdeal.Gen.bcast_S_S8192x8192
  natLt_1_32 := Cert.ExactIdeal.Gen.natLt_1_32
  bitsLt_bf16_f32 := by decide
  reducesTo_S8192x8192_S_d0_1 := Cert.WholeReferenceIdeal.Gen.reducesTo_S8192x8192_S_d0_1
  gather_S67108864_S1_S__n_0_n_n_0_0_1_wf := Cert.ExactIdeal.Gen.gather_S67108864_S1_S__n_0_n_n_0_0_1_wf

variable (x g : (⟨S8192x8192, .f32⟩ : BufTy).Contents (Elt Ideal)) (i : S8192x8192.Idx)

/-- The one index of a number. -/
def one : S_.Idx := fun a => a.elim0

/-- The region at an index, from the three quartiles. -/
theorem region_apply : val_main_v15 (F := Ideal) g i
    = regionOf (val_main_v2 (F := Ideal) g one) (val_main_v3 (F := Ideal) g one) (val_main_v4 (F := Ideal) g one) (g i) := by
  rw [val_main_v15_apply, val_main_v14_apply, val_main_v13_apply, val_main_v12_apply, val_main_v11_apply, val_main_v10_apply,
    val_main_v9_apply, val_main_v8_apply, val_main_v7_apply, val_main_v6_apply, val_main_v5_apply, val_main_v0_apply]
  rfl

theorem quant0 : val_main_v47 (F := Ideal) x i
    = rElem (Ideal.ofBits .f32 0xC0FC0000#32) (Ideal.ofBits .f32 0x40FC0000#32) (Ideal.ofBits .f32 0x3D000000#32) 0#32 2#32
      (Ideal.ofBits .f32 0x42000000#32) (Ideal.ofBits .f32 0x3F780000#32) (x i) := rfl

theorem quant1 : val_main_v79 (F := Ideal) x i
    = rElem (Ideal.ofBits .f32 0xC1F80000#32) (Ideal.ofBits .f32 0x41F80000#32) (Ideal.ofBits .f32 0x3C800000#32)
        4294967294#32 4#32 (Ideal.ofBits .f32 0x41800000#32) (Ideal.ofBits .f32 0x3F700000#32) (x i) := rfl

theorem quant2 : val_main_v111 (F := Ideal) x i
    = rElem (Ideal.ofBits .f32 0xC7E00000#32) (Ideal.ofBits .f32 0x47E00000#32) (Ideal.ofBits .f32 0x37800000#32)
          4294967282#32 16#32 (Ideal.ofBits .f32 0x40800000#32) (Ideal.ofBits .f32 0x3F400000#32) (x i) := rfl

theorem quant3 : val_main_v143 (F := Ideal) x i
    = rElem (Ideal.ofBits .f32 0xCFC00000#32) (Ideal.ofBits .f32 0x4FC00000#32) (Ideal.ofBits .f32 0x30000000#32)
          4294967266#32 32#32 (Ideal.ofBits .f32 0x40000000#32) (Ideal.ofBits .f32 0x3F000000#32) (x i) := rfl

/-- The reference's result at an index. -/
theorem result_apply : val_main_v152 (F := Ideal) x g i
    = refElem (val_main_v2 (F := Ideal) g one) (val_main_v3 (F := Ideal) g one) (val_main_v4 (F := Ideal) g one) (g i) (x i) := by
  rw [val_main_v152_apply, val_main_v151_apply, val_main_v150_apply, val_main_v149_apply, val_main_v148_apply,
    val_main_v147_apply, val_main_v146_apply, val_main_v145_apply, val_main_v144_apply, region_apply, quant0, quant1,
    quant2, quant3]
  rfl

/-- The region by nested comparisons with three estimates. -/
def regionBy (e₁ e₂ e₃ a : EReal) : BitVec 32 :=
  Scalar.select (Ideal.cmp .ole (max a (-a)) e₁) 0#32
    (Scalar.select (Ideal.cmp .ole (max a (-a)) e₂) 1#32
      (Scalar.select (Ideal.cmp .ole (max a (-a)) e₃) 2#32 3#32))

/-- The precondition at an index compares the two regions. -/
theorem pre_apply : Cert.Pre_estimates_separate.fn (F := Ideal) x g i
    = IntOp.cmpi .eq
        (regionOf (val_main_v2 (F := Ideal) g one) (val_main_v3 (F := Ideal) g one) (val_main_v4 (F := Ideal) g one) (g i))
        (regionBy (Cert.WholeReferenceIdeal.Read.val_main_v49 (F := Ideal) g one)
          (Cert.WholeReferenceIdeal.Read.val_main_v95 (F := Ideal) g one)
          (Cert.WholeReferenceIdeal.Read.val_main_v141 (F := Ideal) g one) (g i)) := rfl

/-- Where the precondition holds, the two regions are one. -/
theorem regions_eq (h : Cert.Pre_estimates_separate.fn (F := Ideal) x g i = 1#1) :
    regionOf (val_main_v2 (F := Ideal) g one) (val_main_v3 (F := Ideal) g one) (val_main_v4 (F := Ideal) g one) (g i)
      = regionBy (quartile₁ g) (quartile₂ g) (quartile₃ g) (g i) := by
  rw [pre_apply, Cert.WholeReferenceIdeal.Elem.estimate₁, Cert.WholeReferenceIdeal.Elem.estimate₂,
    Cert.WholeReferenceIdeal.Elem.estimate₃] at h
  by_contra hn
  have : ∀ u v : BitVec 32, u ≠ v → IntOp.cmpi .eq u v = 0#1 := fun u v huv => by
    show BitVec.ofBool (u == v) = 0#1
    rw [beq_false_of_ne huv]; rfl
  rw [this _ _ hn] at h
  exact absurd h (by decide)

/-- Where three estimates give the region that three quartiles give, the kernel's element at the estimates is the
    reference's element at the quartiles. -/
theorem kElem_eq_of_regions {e₁ e₂ e₃ q₁ q₂ q₃ a : EReal} (h : regionOf q₁ q₂ q₃ a = regionBy e₁ e₂ e₃ a) (v : EReal) :
    kElem (((Real.log 2)⁻¹ : ℝ) : EReal) (bitsOf e₁ e₂ e₃ a) v = refElem q₁ q₂ q₃ a v := by
  classical
  unfold refElem
  rw [h, ← elem0, ← elem1, ← elem2, ← elem3]
  unfold bitsOf regionBy
  rw [← Cert.WholeReferenceIdeal.Elem.select_swap, ← Cert.WholeReferenceIdeal.Elem.select_swap,
    ← Cert.WholeReferenceIdeal.Elem.select_swap]
  simp only [select_ole]
  by_cases h₁ : max a (-a) ≤ e₁
  · simp only [if_pos h₁]; rfl
  · by_cases h₂ : max a (-a) ≤ e₂
    · simp only [if_neg h₁, if_pos h₂]; rfl
    · by_cases h₃ : max a (-a) ≤ e₃
      · simp only [if_neg h₁, if_neg h₂, if_pos h₃]; rfl
      · simp only [if_neg h₁, if_neg h₂, if_neg h₃]; rfl

end Cert.ExactIdeal.Elem
-- ==== Proof.ExactClaim.lean ====
module

public import proofs.«01_k».proof.Proof.WholeClaim
public import proofs.«01_k».proof.Proof.Exact

@[expose] public section

noncomputable section

namespace Cert.Proof.Exact

open Idealize.ShloMosaic Idealize.ShloMosaic.TcCoe Idealize.ShloMosaic.StableHlo Idealize.SL.Sem

/-- The whole kernel's ideal reading runs without fault, in particular where the estimates separate as the quartiles do. -/
theorem frame_ideal_pre : Cert.quiescent_WholeIdeal_pre_estimates_separate :=
  fun m ρ _ => Cert.WholeIdeal.Both.frame m ρ
/-- The reference with the quartiles runs, keeps its arguments, and declares no semaphore; -/
theorem frame_reference : Cert.quiescent_ExactIdeal := fun m ρ _ =>
  (θ_run Cert.ExactIdeal.defs _ _).mono (fun r h => ⟨fun c => (h c).2,
      Idealize.ShloMosaic.sem_eq_zero_of_no_sems (by decide) r.2⟩)
    (Cert.ExactIdeal.Value.run (F := Ideal) m ρ)
/-- in particular where the estimates separate as the quartiles do. -/
theorem frame_reference_pre : Cert.quiescent_ExactIdeal_pre_estimates_separate :=
  fun m ρ _ => frame_reference m ρ trivial

/-- Kernel and reference.py's reference end with the same array, wherever the estimates put every gradient between the same
    two quartiles. -/
theorem algebraic : Cert.algebraic_WholeIdeal_ExactIdeal_pre_estimates_separate := by
  intro m ρ m' ρ' hpre hagree
  refine ⟨fun c => Whole.leaves m c, (θ_run Cert.WholeIdeal.defs _ _).mono
    (fun _ h c => ⟨(h.1 c).1.trans (Whole.left_eq m c), (h.1 c).2⟩) (Cert.WholeIdeal.Both.run m ρ), ?_⟩
  refine (θ_run Cert.ExactIdeal.defs _ _).mono (fun _ h c => ⟨?_, (h c).2⟩)
    (Cert.ExactIdeal.Value.run (F := Ideal) m' ρ')
  refine ((h c).1.trans (Cert.ExactIdeal.Read.val_main_v152_eq (launchContents m' c))).trans ?_
  exact (congrArg₂ (Cert.ExactIdeal.Read.val_main_v152 (F := Ideal))
    ((launchContents_devRef m' c Cert.ExactIdeal.main_arg0).trans (hagree c).1)
    ((launchContents_devRef m' c Cert.ExactIdeal.main_arg1).trans (hagree c).2)).trans
    (funext fun i => (Cert.ExactIdeal.Elem.result_apply _ _ i).trans
      (Cert.ExactIdeal.Elem.kElem_eq_of_regions
        (Cert.ExactIdeal.Elem.regions_eq _ _ i (congrFun (hpre c) i)) _).symm)

end Cert.Proof.Exact
-- ==== Proof.lean ====
module

public import proofs.«01_k».proof.Defs
public import proofs.«01_k».proof.Proof.QuantClaim
public import proofs.«01_k».proof.Proof.WholeClaim
public import proofs.«01_k».proof.Proof.ExactClaim
public import proofs.«01_k».proof.Proof.Gen.Own.Whole.RegionsD
public import proofs.«01_k».proof.Proof.Gen.Own.WholeIdeal.RegionsD
public import proofs.«01_k».proof.Proof.Gen.Whole.Skeleton
public import proofs.«01_k».proof.Proof.Gen.Whole.Points
public import proofs.«01_k».proof.Proof.Gen.WholeIdeal.Skeleton
public import proofs.«01_k».proof.Proof.Gen.WholeIdeal.Points
public import proofs.«01_k».proof.Proof.Gen.Whole.Regions
public import proofs.«01_k».proof.Proof.Gen.WholeIdeal.Regions
public import proofs.«01_k».proof.Proof.Gen.ExactIdeal.Run
public import proofs.«01_k».proof.Proof.Gen.ExactIdeal.Read
public import proofs.«01_k».proof.Proof.Gen.WholeReferenceIdeal.Run
public import proofs.«01_k».proof.Proof.Gen.WholeReferenceIdeal.Read
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.Proof

theorem claim : Cert.Claim := ⟨Cert.Kernel.Gen.facts, Cert.KernelIdeal.Gen.facts, Cert.ReferenceIdeal.Gen.facts,
  Cert.Whole.Gen.facts, Cert.WholeIdeal.Gen.facts, Cert.WholeReferenceIdeal.Gen.facts, Cert.ExactIdeal.Gen.facts,
  Quant.facts_pre, Cert.ExactIdeal.Elem.facts_pre,
  Quant.frame_kernel, Quant.frame_ideal, Quant.frame_ideal_pre, Quant.frame_reference, Quant.frame_reference_pre,
  Whole.frame_kernel, Whole.frame_ideal, Exact.frame_ideal_pre, Whole.frame_reference,
  Exact.frame_reference, Exact.frame_reference_pre,
  Quant.preserves, Quant.algebraic, Whole.preserves, Whole.algebraic, Exact.algebraic⟩

end Cert.Proof

end
